-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_tokens [hPre_tokens : Cert.Pre_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_tokens [hPre_tokens : Cert.Pre_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_tokens [hKernelIdeal : Cert.KernelIdeal.Facts] [hPre_tokens : Cert.Pre_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_tokens m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_tokens [hReferenceIdeal : Cert.ReferenceIdeal.Facts] [hPre_tokens : Cert.Pre_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_tokens [hKernelIdeal : Cert.KernelIdeal.Facts] [hReferenceIdeal : Cert.ReferenceIdeal.Facts] [hPre_tokens : Cert.Pre_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_tokens m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v24)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v61) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_tokens : Cert.Pre_tokens.Facts),
    quiescent_Kernel (hKernel := hKernel)
    ∧ quiescent_KernelIdeal (hKernelIdeal := hKernelIdeal)
    ∧ quiescent_KernelIdeal_pre_tokens (hKernelIdeal := hKernelIdeal) (hPre_tokens := hPre_tokens)
    ∧ quiescent_ReferenceIdeal (hReferenceIdeal := hReferenceIdeal)
    ∧ quiescent_ReferenceIdeal_pre_tokens (hReferenceIdeal := hReferenceIdeal) (hPre_tokens := hPre_tokens)
    ∧ preserves_Kernel_KernelIdeal
    ∧ algebraic_KernelIdeal_ReferenceIdeal_pre_tokens (hKernelIdeal := hKernelIdeal) (hReferenceIdeal := hReferenceIdeal) (hPre_tokens := hPre_tokens)
-- ==== Pre_tokens.lean ====
abbrev S20x1024x21 : Shape := ⟨3, ![20, 1024, 21]⟩
abbrev S96x50 : Shape := ⟨2, ![96, 50]⟩
abbrev S128x50x5 : Shape := ⟨3, ![128, 50, 5]⟩
abbrev S128 : Shape := ⟨1, ![128]⟩
abbrev S128x128 : Shape := ⟨2, ![128, 128]⟩
abbrev S_ : Shape := ⟨0, ![]⟩

class Facts : Prop where
  bcast_S_S20x1024x21 : S_.BroadcastsInDim S20x1024x21 (![] : Fin 0 → Fin S20x1024x21.rank)

variable [Facts]

def fn {F : FTy → Type} [FloatOps F] (main_arg0 : IVec S20x1024x21 32) (main_arg1 : FVec F S96x50 .f32) (main_arg2 : FVec F S128x50x5 .f32) (main_arg3 : FVec F S128 .f32) (main_arg4 : FVec F S128x128 .f32) (main_arg5 : FVec F S128 .f32) (main_arg6 : FVec F S128x128 .f32) (main_arg7 : FVec F S128 .f32) : IVec S20x1024x21 1 :=
  let main_c : IVec S_ 32 := constantI S_ 32 0#32
  let main_v0 : IVec S20x1024x21 32 := broadcastInDim S20x1024x21 ![] bcast_S_S20x1024x21 main_c
  let main_v1 : IVec S20x1024x21 1 := cmpi .sge main_arg0 main_v0
  let main_c_0 : IVec S_ 32 := constantI S_ 32 96#32
  let main_v2 : IVec S20x1024x21 32 := broadcastInDim S20x1024x21 ![] bcast_S_S20x1024x21 main_c_0
  let main_v3 : IVec S20x1024x21 1 := cmpi .slt main_arg0 main_v2
  let main_v4 : IVec S20x1024x21 1 := andi main_v1 main_v3
  main_v4
-- ==== Kernel.lean ====
abbrev S20x1024x21 : Shape := ⟨3, ![20, 1024, 21]⟩
abbrev S96x50 : Shape := ⟨2, ![96, 50]⟩
abbrev S128x50x5 : Shape := ⟨3, ![128, 50, 5]⟩
abbrev S128 : Shape := ⟨1, ![128]⟩
abbrev S128x128 : Shape := ⟨2, ![128, 128]⟩
abbrev S20480x21 : Shape := ⟨2, ![20480, 21]⟩
abbrev S21x20480 : Shape := ⟨2, ![21, 20480]⟩
abbrev S128x5x96 : Shape := ⟨3, ![128, 5, 96]⟩
abbrev S5x96x128 : Shape := ⟨3, ![5, 96, 128]⟩
abbrev S_ : Shape := ⟨0, ![]⟩
abbrev S6x128x256 : Shape := ⟨3, ![6, 128, 256]⟩
abbrev S1 : Shape := ⟨1, ![1]⟩
abbrev S3 : Shape := ⟨1, ![3]⟩
abbrev S768x256 : Shape := ⟨2, ![768, 256]⟩
abbrev S1x128 : Shape := ⟨2, ![1, 128]⟩
abbrev S20480x128 : Shape := ⟨2, ![20480, 128]⟩
abbrev S21x4096 : Shape := ⟨2, ![21, 4096]⟩
abbrev S4096x128 : Shape := ⟨2, ![4096, 128]⟩
abbrev S21x4096x128 : Shape := ⟨3, ![21, 4096, 128]⟩
abbrev S21x4096x1 : Shape := ⟨3, ![21, 4096, 1]⟩
abbrev S1x4096x128 : Shape := ⟨3, ![1, 4096, 128]⟩
abbrev S22x4096x128 : Shape := ⟨3, ![22, 4096, 128]⟩
abbrev S36864x256 : Shape := ⟨2, ![36864, 256]⟩
abbrev S9x4096x128 : Shape := ⟨3, ![9, 4096, 128]⟩
abbrev S36864x128 : Shape := ⟨2, ![36864, 128]⟩
abbrev S256x256 : Shape := ⟨2, ![256, 256]⟩
abbrev S9x4096x256 : Shape := ⟨3, ![9, 4096, 256]⟩
abbrev S8x4096x128 : Shape := ⟨3, ![8, 4096, 128]⟩
abbrev S20x1024x128 : Shape := ⟨3, ![20, 1024, 128]⟩

abbrev nBuf : Space → Nat
  | .hbm => 40
  | .vmem => 10
  | .smem => 0
  | _ => 0

abbrev bufTy : (tb : Table) → Fin (tcTables nBuf tb) → BufTy
  | .hbm, ⟨0, _⟩ => ⟨S20x1024x21, .i32⟩
  | .hbm, ⟨1, _⟩ => ⟨S96x50, .f32⟩
  | .hbm, ⟨2, _⟩ => ⟨S128x50x5, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S20480x21, .i32⟩
  | .hbm, ⟨9, _⟩ => ⟨S20480x21, .i8⟩
  | .hbm, ⟨10, _⟩ => ⟨S21x20480, .i8⟩
  | .hbm, ⟨11, _⟩ => ⟨S128x5x96, .f32⟩
  | .hbm, ⟨12, _⟩ => ⟨S5x96x128, .f32⟩
  | .hbm, ⟨13, _⟩ => ⟨S_, .f32⟩
  | .hbm, ⟨14, _⟩ => ⟨S6x128x256, .f32⟩
  | .hbm, ⟨15, _⟩ => ⟨S_, .i32⟩
  | .hbm, ⟨16, _⟩ => ⟨S1, .i32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S3, .i32⟩
  | .hbm, ⟨22, _⟩ => ⟨S6x128x256, .f32⟩
  | .hbm, ⟨23, _⟩ => ⟨S_, .i32⟩
  | .hbm, ⟨24, _⟩ => ⟨S1, .i32⟩
  | .hbm, ⟨25, _⟩ => ⟨S_, .i32⟩
  | .hbm, ⟨26, _⟩ => ⟨S1, .i32⟩
  | .hbm, ⟨27, _⟩ => ⟨S_, .i32⟩
  | .hbm, ⟨28, _⟩ => ⟨S1, .i32⟩
  | .hbm, ⟨29, _⟩ => ⟨S3, .i32⟩
  | .hbm, ⟨30, _⟩ => ⟨S6x128x256, .f32⟩
  | .hbm, ⟨31, _⟩ => ⟨S768x256, .f32⟩
  | .hbm, ⟨32, _⟩ => ⟨S768x256, .bf16⟩
  | .hbm, ⟨33, _⟩ => ⟨S1x128, .f32⟩
  | .hbm, ⟨34, _⟩ => ⟨S1x128, .f32⟩
  | .hbm, ⟨35, _⟩ => ⟨S1x128, .f32⟩
  | .hbm, ⟨36, _⟩ => ⟨S128x128, .f32⟩
  | .hbm, ⟨37, _⟩ => ⟨S128x128, .f32⟩
  | .hbm, ⟨38, _⟩ => ⟨S20480x128, .f32⟩
  | .hbm, ⟨39, _⟩ => ⟨S20x1024x128, .f32⟩
  | .local _ .vmem, ⟨0, _⟩ => ⟨S21x4096, .i8⟩
  | .local _ .vmem, ⟨1, _⟩ => ⟨S21x4096, .i8⟩
  | .local _ .vmem, ⟨2, _⟩ => ⟨S768x256, .bf16⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S4096x128, .f32⟩
  | .local _ .vmem, ⟨9, _⟩ => ⟨S4096x128, .f32⟩
  | _, _ => ⟨S20x1024x21, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_c : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_c_2 : Ref sig .tc := ⟨.hbm, 23, rfl⟩
abbrev main_v11 : Ref sig .tc := ⟨.hbm, 24, rfl⟩
abbrev main_c_3 : Ref sig .tc := ⟨.hbm, 25, rfl⟩
abbrev main_v12 : Ref sig .tc := ⟨.hbm, 26, rfl⟩
abbrev main_c_4 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S21x4096 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S768x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S4096x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S20x1024x21 : Shape := ⟨3, ![20, 1024, 21]⟩
abbrev S96x50 : Shape := ⟨2, ![96, 50]⟩
abbrev S128x50x5 : Shape := ⟨3, ![128, 50, 5]⟩
abbrev S128 : Shape := ⟨1, ![128]⟩
abbrev S128x128 : Shape := ⟨2, ![128, 128]⟩
abbrev S_ : Shape := ⟨0, ![]⟩
abbrev S20x1024x21x1 : Shape := ⟨4, ![20, 1024, 21, 1]⟩
abbrev S1 : Shape := ⟨1, ![1]⟩
abbrev S1x1x1x1 : Shape := ⟨4, ![1, 1, 1, 1]⟩
abbrev S20x1024x21x50 : Shape := ⟨4, ![20, 1024, 21, 50]⟩
abbrev S20x1024x50x21 : Shape := ⟨4, ![20, 1024, 50, 21]⟩
abbrev S20480x50x21 : Shape := ⟨3, ![20480, 50, 21]⟩
abbrev S20480x128x17 : Shape := ⟨3, ![20480, 128, 17]⟩
abbrev S20480x50x17 : Shape := ⟨3, ![20480, 50, 17]⟩
abbrev S128x50x1 : Shape := ⟨3, ![128, 50, 1]⟩
abbrev S128x50 : Shape := ⟨2, ![128, 50]⟩
abbrev S128x20480x17 : Shape := ⟨3, ![128, 20480, 17]⟩
abbrev S1x128x1 : Shape := ⟨3, ![1, 128, 1]⟩
abbrev S20480x128 : Shape := ⟨2, ![20480, 128]⟩
abbrev S1x128 : Shape := ⟨2, ![1, 128]⟩
abbrev S20x1024x128 : Shape := ⟨3, ![20, 1024, 128]⟩

abbrev nBuf : Space → Nat
  | .hbm => 101
  | .vmem => 0
  | .smem => 0
  | _ => 0

abbrev bufTy : (tb : Table) → Fin (tcTables nBuf tb) → BufTy
  | .hbm, ⟨0, _⟩ => ⟨S20x1024x21, .i32⟩
  | .hbm, ⟨1, _⟩ => ⟨S96x50, .f32⟩
  | .hbm, ⟨2, _⟩ => ⟨S128x50x5, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S_, .i32⟩
  | .hbm, ⟨9, _⟩ => ⟨S20x1024x21, .i32⟩
  | .hbm, ⟨10, _⟩ => ⟨S20x1024x21, .i1⟩
  | .hbm, ⟨11, _⟩ => ⟨S_, .i32⟩
  | .hbm, ⟨12, _⟩ => ⟨S20x1024x21, .i32⟩
  | .hbm, ⟨13, _⟩ => ⟨S20x1024x21, .i32⟩
  | .hbm, ⟨14, _⟩ => ⟨S20x1024x21, .i32⟩
  | .hbm, ⟨15, _⟩ => ⟨S20x1024x21x1, .i32⟩
  | .hbm, ⟨16, _⟩ => ⟨S1, .i32⟩
  | .hbm, ⟨17, _⟩ => ⟨S_, .i32⟩
  | .hbm, ⟨18, _⟩ => ⟨S20x1024x21x1, .i32⟩
  | .hbm, ⟨19, _⟩ => ⟨S20x1024x21x1, .i1⟩
  | .hbm, ⟨20, _⟩ => ⟨S1x1x1x1, .i32⟩
  | .hbm, ⟨21, _⟩ => ⟨S20x1024x21x1, .i32⟩
  | .hbm, ⟨22, _⟩ => ⟨S20x1024x21x1, .i1⟩
  | .hbm, ⟨23, _⟩ => ⟨S20x1024x21x1, .i1⟩
  | .hbm, ⟨24, _⟩ => ⟨S_, .i1⟩
  | .hbm, ⟨25, _⟩ => ⟨S20x1024x21, .i1⟩
  | .hbm, ⟨26, _⟩ => ⟨S20x1024x21x50, .f32⟩
  | .hbm, ⟨27, _⟩ => ⟨S20x1024x21x50, .i1⟩
  | .hbm, ⟨28, _⟩ => ⟨S_, .f32⟩
  | .hbm, ⟨29, _⟩ => ⟨S20x1024x21x50, .f32⟩
  | .hbm, ⟨30, _⟩ => ⟨S20x1024x21x50, .f32⟩
  | .hbm, ⟨31, _⟩ => ⟨S20x1024x50x21, .f32⟩
  | .hbm, ⟨32, _⟩ => ⟨S20480x50x21, .f32⟩
  | .hbm, ⟨33, _⟩ => ⟨S_, .f32⟩
  | .hbm, ⟨34, _⟩ => ⟨S20480x128x17, .f32⟩
  | .hbm, ⟨35, _⟩ => ⟨S20480x50x17, .f32⟩
  | .hbm, ⟨36, _⟩ => ⟨S128x50x1, .f32⟩
  | .hbm, ⟨37, _⟩ => ⟨S128x50, .f32⟩
  | .hbm, ⟨38, _⟩ => ⟨S128x20480x17, .f32⟩
  | .hbm, ⟨39, _⟩ => ⟨S20480x128x17, .f32⟩
  | .hbm, ⟨40, _⟩ => ⟨S20480x128x17, .f32⟩
  | .hbm, ⟨41, _⟩ => ⟨S20480x50x17, .f32⟩
  | .hbm, ⟨42, _⟩ => ⟨S128x50x1, .f32⟩
  | .hbm, ⟨43, _⟩ => ⟨S128x50, .f32⟩
  | .hbm, ⟨44, _⟩ => ⟨S128x20480x17, .f32⟩
  | .hbm, ⟨45, _⟩ => ⟨S20480x128x17, .f32⟩
  | .hbm, ⟨46, _⟩ => ⟨S20480x128x17, .f32⟩
  | .hbm, ⟨47, _⟩ => ⟨S20480x50x17, .f32⟩
  | .hbm, ⟨48, _⟩ => ⟨S128x50x1, .f32⟩
  | .hbm, ⟨49, _⟩ => ⟨S128x50, .f32⟩
  | .hbm, ⟨50, _⟩ => ⟨S128x20480x17, .f32⟩
  | .hbm, ⟨51, _⟩ => ⟨S20480x128x17, .f32⟩
  | .hbm, ⟨52, _⟩ => ⟨S20480x128x17, .f32⟩
  | .hbm, ⟨53, _⟩ => ⟨S20480x50x17, .f32⟩
  | .hbm, ⟨54, _⟩ => ⟨S128x50x1, .f32⟩
  | .hbm, ⟨55, _⟩ => ⟨S128x50, .f32⟩
  | .hbm, ⟨56, _⟩ => ⟨S128x20480x17, .f32⟩
  | .hbm, ⟨57, _⟩ => ⟨S20480x128x17, .f32⟩
  | .hbm, ⟨58, _⟩ => ⟨S20480x128x17, .f32⟩
  | .hbm, ⟨59, _⟩ => ⟨S20480x50x17, .f32⟩
  | .hbm, ⟨60, _⟩ => ⟨S128x50x1, .f32⟩
  | .hbm, ⟨61, _⟩ => ⟨S128x50, .f32⟩
  | .hbm, ⟨62, _⟩ => ⟨S128x20480x17, .f32⟩
  | .hbm, ⟨63, _⟩ => ⟨S20480x128x17, .f32⟩
  | .hbm, ⟨64, _⟩ => ⟨S20480x128x17, .f32⟩
  | .hbm, ⟨65, _⟩ => ⟨S1x128x1, .f32⟩
  | .hbm, ⟨66, _⟩ => ⟨S20480x128x17, .f32⟩
  | .hbm, ⟨67, _⟩ => ⟨S20480x128x17, .f32⟩
  | .hbm, ⟨68, _⟩ => ⟨S_, .f32⟩
  | .hbm, ⟨69, _⟩ => ⟨S20480x128x17, .f32⟩
  | .hbm, ⟨70, _⟩ => ⟨S20480x128x17, .f32⟩
  | .hbm, ⟨71, _⟩ => ⟨S_, .f32⟩
  | .hbm, ⟨72, _⟩ => ⟨S20480x128, .f32⟩
  | .hbm, ⟨73, _⟩ => ⟨S128x128, .f32⟩
  | .hbm, ⟨74, _⟩ => ⟨S20480x128, .f32⟩
  | .hbm, ⟨75, _⟩ => ⟨S1x128, .f32⟩
  | .hbm, ⟨76, _⟩ => ⟨S20480x128, .f32⟩
  | .hbm, ⟨77, _⟩ => ⟨S20480x128, .f32⟩
  | .hbm, ⟨78, _⟩ => ⟨S_, .f32⟩
  | .hbm, ⟨79, _⟩ => ⟨S20480x128, .f32⟩
  | .hbm, ⟨80, _⟩ => ⟨S20480x128, .f32⟩
  | .hbm, ⟨81, _⟩ => ⟨S128x128, .f32⟩
  | .hbm, ⟨82, _⟩ => ⟨S20480x128, .f32⟩
  | .hbm, ⟨83, _⟩ => ⟨S1x128, .f32⟩
  | .hbm, ⟨84, _⟩ => ⟨S20480x128, .f32⟩
  | .hbm, ⟨85, _⟩ => ⟨S20480x128, .f32⟩
  | .hbm, ⟨86, _⟩ => ⟨S20480x128, .f32⟩
  | .hbm, ⟨87, _⟩ => ⟨S20480x128, .f32⟩
  | .hbm, ⟨88, _⟩ => ⟨S_, .f32⟩
  | .hbm, ⟨89, _⟩ => ⟨S20480x128, .f32⟩
  | .hbm, ⟨90, _⟩ => ⟨S20480x128, .f32⟩
  | .hbm, ⟨91, _⟩ => ⟨S_, .f32⟩
  | .hbm, ⟨92, _⟩ => ⟨S20480x128, .f32⟩
  | .hbm, ⟨93, _⟩ => ⟨S20480x128, .f32⟩
  | .hbm, ⟨94, _⟩ => ⟨S20480x128, .f32⟩
  | .hbm, ⟨95, _⟩ => ⟨S_, .f32⟩
  | .hbm, ⟨96, _⟩ => ⟨S20480x128, .f32⟩
  | .hbm, ⟨97, _⟩ => ⟨S20480x128, .f32⟩
  | .hbm, ⟨98, _⟩ => ⟨S20480x128, .f32⟩
  | .hbm, ⟨99, _⟩ => ⟨S20480x128, .f32⟩
  | .hbm, ⟨100, _⟩ => ⟨S20x1024x128, .f32⟩
  | _, _ => ⟨S20x1024x21, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_c : Ref sig .tc := ⟨.hbm, 8, rfl⟩
abbrev main_call0_v0 : Ref sig .tc := ⟨.hbm, 9, rfl⟩
abbrev main_call0_v1 : Ref sig .tc := ⟨.hbm, 10, rfl⟩
abbrev main_call0_c_0 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_c_1 : Ref sig .tc := ⟨.hbm, 16, rfl⟩
abbrev main_call0_c_2 : Ref sig .tc := ⟨.hbm, 17, rfl⟩
abbrev main_call0_v6 : Ref sig .tc := ⟨.hbm, 18, rfl⟩
abbrev main_call0_v7 : Ref sig .tc := ⟨.hbm, 19, rfl⟩
abbrev main_call0_v8 : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_3 : Ref sig .tc := ⟨.hbm, 24, rfl⟩
abbrev main_call0_v12 : Ref sig .tc := ⟨.hbm, 25, rfl⟩
abbrev main_call0_v13 : Ref sig .tc := ⟨.hbm, 26, rfl⟩
abbrev main_call0_v14 : Ref sig .tc := ⟨.hbm, 27, rfl⟩
abbrev main_call0_cst : Ref sig .tc := ⟨.hbm, 28, rfl⟩
abbrev main_call0_v15 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_cst : Ref sig .tc := ⟨.hbm, 33, rfl⟩
abbrev main_v3 : Ref sig .tc := ⟨.hbm, 34, rfl⟩
abbrev main_v4 : Ref sig .tc := ⟨.hbm, 35, rfl⟩
abbrev main_v5 : Ref sig .tc := ⟨.hbm, 36, rfl⟩
abbrev main_v6 : Ref sig .tc := ⟨.hbm, 37, rfl⟩
abbrev main_v7 : Ref sig .tc := ⟨.hbm, 38, rfl⟩
abbrev main_v8 : Ref sig .tc := ⟨.hbm, 39, rfl⟩
abbrev main_v9 : Ref sig .tc := ⟨.hbm, 40, rfl⟩
abbrev main_v10 : Ref sig .tc := ⟨.hbm, 41, rfl⟩
abbrev main_v11 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_v20 : Ref sig .tc := ⟨.hbm, 51, rfl⟩
abbrev main_v21 : Ref sig .tc := ⟨.hbm, 52, rfl⟩
abbrev main_v22 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_call1_cst : Ref sig .tc := ⟨.hbm, 68, rfl⟩
abbrev main_call1_v0 : Ref sig .tc := ⟨.hbm, 69, rfl⟩
abbrev main_v37 : Ref sig .tc := ⟨.hbm, 70, rfl⟩
abbrev main_cst_0 : Ref sig .tc := ⟨.hbm, 71, rfl⟩
abbrev main_v38 : Ref sig .tc := ⟨.hbm, 72, rfl⟩
abbrev main_v39 : Ref sig .tc := ⟨.hbm, 73, rfl⟩
abbrev main_v40 : Ref sig .tc := ⟨.hbm, 74, rfl⟩
abbrev main_v41 : Ref sig .tc := ⟨.hbm, 75, rfl⟩
abbrev main_v42 : Ref sig .tc := ⟨.hbm, 76, rfl⟩
abbrev main_v43 : Ref sig .tc := ⟨.hbm, 77, rfl⟩
abbrev main_call2_cst : Ref sig .tc := ⟨.hbm, 78, rfl⟩
abbrev main_call2_v0 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_cst_1 : Ref sig .tc := ⟨.hbm, 88, rfl⟩
abbrev main_v52 : Ref sig .tc := ⟨.hbm, 89, rfl⟩
abbrev main_v53 : Ref sig .tc := ⟨.hbm, 90, rfl⟩
abbrev main_cst_2 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_cst_3 : Ref sig .tc := ⟨.hbm, 95, rfl⟩
abbrev main_v57 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩

abbrev nD : Nat := 1
abbrev τ : Topo := Topo.v7x

variable {F : FTy → Type} [FloatOps F]
-- ==== Proof.Frames.lean ====
/- The reference's frame: its arguments stay as they were and every counter ends at zero. -/
module

public import proofs.«01_k».proof.Defs
public import proofs.«01_k».proof.Proof.Gen.ReferenceIdeal.Run
public import Idealize.ShloMosaic.Lib.Claim
public import Idealize.ShloMosaic.Lib.Quiescent

@[expose] public section

noncomputable section

namespace Cert.Proof

open Idealize.ShloMosaic Idealize.SL.Sem

set_option maxHeartbeats 2000000 in
/-- The reference leaves its arguments as they were and every counter at zero. -/
theorem frame_reference : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩) (Cert.ReferenceIdeal.Value.run m ρ)

end Cert.Proof
end
-- ==== Proof.Spec.lean ====
/- The mathematics both programs are compared with: a convolution over time of embedded characters, its maximum over
   the window's positions, and a highway layer, written on plain sums and suprema of extended reals. -/
module

public import Idealize.ShloMosaic.Lib.Pointwise

@[expose] public section

noncomputable section

namespace Cert.Conv

open Idealize.ShloMosaic

/-- The characters' embedding. -/
abbrev Emb := FVec Ideal ⟨2, ![96, 50]⟩ .f32
/-- The convolution's taps. -/
abbrev Taps := FVec Ideal ⟨3, ![128, 50, 5]⟩ .f32
/-- A bias over the features. -/
abbrev Bias := FVec Ideal ⟨1, ![128]⟩ .f32
/-- A square matrix over the features. -/
abbrev Mat := FVec Ideal ⟨2, ![128, 128]⟩ .f32

/-- What tap `k` contributes to feature `f` when it stands over character `v`. -/
def tap (e : Emb) (cw : Taps) (k : Fin 5) (v : Fin 96) (f : Fin 128) : EReal :=
  ∑ c : Fin 50, cw (ix3 f c k) * e (ix2 v c)

/-- The convolution of one word's characters at position `t`, feature `f`. -/
def conv (e : Emb) (cw : Taps) (row : Fin 21 → Fin 96) (t : Fin 17) (f : Fin 128) : EReal :=
  ∑ k : Fin 5, tap e cw k (row ⟨t.val + k.val, by omega⟩) f

/-- The largest over the positions of the rectified, biased convolution. -/
def hid (e : Emb) (cw : Taps) (cb : Bias) (row : Fin 21 → Fin 96) (f : Fin 128) : EReal :=
  Finset.univ.sup fun t : Fin 17 => max (conv e cw row t f + cb (ix1 f)) 0

/-- A linear map's row `f` with its bias. -/
def lin (w : Mat) (b : Bias) (h : Fin 128 → EReal) (f : Fin 128) : EReal :=
  (∑ k : Fin 128, h k * w (ix2 f k)) + b (ix1 f)

/-- The highway layer on a vector `h` of features. -/
def highway (wp : Mat) (bp : Bias) (wg : Mat) (bg : Bias) (h : Fin 128 → EReal) (f : Fin 128) : EReal :=
  Ideal.logistic (lin wg bg h f) * max (lin wp bp h f) 0 + (1 - Ideal.logistic (lin wg bg h f)) * h f

/-- The largest of nothing is minus infinity. -/
theorem ofBits_bot : Ideal.ofBits FTy.f32 0xFF800000#32 = (⊥ : EReal) := by
  simp [Ideal.ofBits, Ideal.ieee]

/-- A maximum folded from minus infinity is a supremum. -/
theorem fold_max_bot {n : Nat} (g : Fin n → EReal) :
    (Finset.univ.fold max (Ideal.ofBits FTy.f32 0xFF800000#32) g : EReal) = Finset.univ.sup g := by
  rw [ofBits_bot]; rfl

/-- A supremum over seventeen positions, by even and odd ones. -/
theorem sup_even_odd (g : Fin 17 → EReal) :
    max (Finset.univ.sup fun p : Fin 9 => g ⟨2 * p.val, by omega⟩) (Finset.univ.sup fun p : Fin 8 => g ⟨2 * p.val + 1, by omega⟩) =
      Finset.univ.sup g := by
  apply le_antisymm
  · refine max_le (Finset.sup_le fun p _ => ?_) (Finset.sup_le fun p _ => ?_)
    · exact Finset.le_sup (f := g) (Finset.mem_univ _)
    · exact Finset.le_sup (f := g) (Finset.mem_univ _)
  · refine Finset.sup_le fun t _ => ?_
    rcases Nat.even_or_odd' t.val with ⟨c, hc | hc⟩
    · refine le_trans ?_ (le_max_left _ _)
      have := Finset.le_sup (f := fun p : Fin 9 => g ⟨2 * p.val, by omega⟩) (Finset.mem_univ (⟨c, by omega⟩ : Fin 9))
      refine le_trans (le_of_eq ?_) this
      exact congrArg g (Fin.ext hc)
    · refine le_trans ?_ (le_max_right _ _)
      have := Finset.le_sup (f := fun p : Fin 8 => g ⟨2 * p.val + 1, by omega⟩) (Finset.mem_univ (⟨c, by omega⟩ : Fin 8))
      refine le_trans (le_of_eq ?_) this
      exact congrArg g (Fin.ext hc)

/-- Adding a bias and rectifying commute with a supremum over positions. -/
theorem relu_sup (g : Fin 17 → EReal) (b : EReal) :
    max (Finset.univ.sup g + b) 0 = Finset.univ.sup fun t => max (g t + b) 0 := by
  apply le_antisymm
  · obtain ⟨t, _, ht⟩ := Finset.exists_mem_eq_sup Finset.univ ⟨(0 : Fin 17), Finset.mem_univ _⟩ g
    rw [ht]
    exact Finset.le_sup (f := fun t => max (g t + b) 0) (Finset.mem_univ t)
  · refine Finset.sup_le fun t _ => max_le_max (add_le_add (Finset.le_sup (Finset.mem_univ t)) le_rfl) le_rfl

end Cert.Conv

end
-- ==== Proof.Block.lean ====
/- What one block of the kernel computes, read at an index. -/
module

public import proofs.«01_k».proof.Proof.Spec
public import proofs.«01_k».proof.Proof.Gen.KernelIdeal.Skeleton

@[expose] public section

set_option maxRecDepth 16384

noncomputable section

namespace Cert.KernelIdeal.Block

open Idealize.ShloMosaic Idealize.SL.Sem
open Cert.KernelIdeal Cert.KernelIdeal.Gen

/-! ## The stages of the body, named -/

/-- One plane of the encoded characters, cut out at position `o`. -/
def plane (x : FVec Ideal S22x4096x128 .bf16) (o : Nat) (h : S22x4096x128.Slices ![o, 0, 0] S1x4096x128) :
    FVec Ideal S1x4096x128 .bf16 :=
  shapeCast S1x4096x128 (shapeCast S4096x128 (extractStridedSlice S1x4096x128 ![o, 0, 0] x h)
    shapeCasts_S1x4096x128_S4096x128) shapeCasts_S4096x128_S1x4096x128

/-- Nine planes laid one after the other. -/
def stack9 (a : Fin 9 → FVec Ideal S1x4096x128 .bf16) : FVec Ideal S9x4096x128 .bf16 :=
  concatenate S9x4096x128 0 [⟨S1x4096x128, a 0⟩, ⟨S1x4096x128, a 1⟩, ⟨S1x4096x128, a 2⟩, ⟨S1x4096x128, a 3⟩,
    ⟨S1x4096x128, a 4⟩, ⟨S1x4096x128, a 5⟩, ⟨S1x4096x128, a 6⟩, ⟨S1x4096x128, a 7⟩, ⟨S1x4096x128, a 8⟩]
    concatenates_S1x4096x128_S1x4096x128_S1x4096x128_S1x4096x128_S1x4096x128_S1x4096x128_S1x4096x128_S1x4096x128_S1x4096x128_S9x4096x128_d0

/-- Every second plane, starting at position `o`. -/
def stack (x : FVec Ideal S22x4096x128 .bf16) (o : Nat)
    (h : ∀ p : Fin 9, S22x4096x128.Slices ![2 * p.val + o, 0, 0] S1x4096x128) : FVec Ideal S9x4096x128 .bf16 :=
  stack9 fun p => plane x (2 * p.val + o) (h p)

/-- Two stacks side by side times one third of the table. -/
def chunk (E O : FVec Ideal S9x4096x128 .bf16) (W : Vec Ideal S256x256 .bf16) : FVec Ideal S36864x256 .f32 :=
  matmul (φ₁ := .bf16) (φ₂ := .bf16) dot_S36864x256_S256x256_S36864x256_1_0_0_1_n_n none
    (concatenate S36864x256 1 [⟨S36864x128, shapeCast S36864x128 E shapeCasts_S9x4096x128_S36864x128⟩,
      ⟨S36864x128, shapeCast S36864x128 O shapeCasts_S9x4096x128_S36864x128⟩] concatenates_S36864x128_S36864x128_S36864x256_d1)
    (shapeCast S256x256 W shapeCasts_S256x256_S256x256) (constant S36864x256 .f32 0x00000000#32)

/-- Every plane a stack takes lies among the 22 planes. -/
theorem slices_at : ∀ (o : Fin 6) (p : Fin 9), S22x4096x128.Slices ![2 * p.val + o.val, 0, 0] S1x4096x128 := by decide

/-- The three products added up. -/
def acc (x : FVec Ideal S22x4096x128 .bf16) (W0 W1 W2 : Vec Ideal S256x256 .bf16) : FVec Ideal S36864x256 .f32 :=
  addf (addf (addf (constant S36864x256 .f32 0x00000000#32)
    (chunk (stack x 0 (slices_at 0)) (stack x 1 (slices_at 1)) W0))
    (chunk (stack x 2 (slices_at 2)) (stack x 3 (slices_at 3)) W1))
    (chunk (stack x 4 (slices_at 4)) (stack x 5 (slices_at 5)) W2)

/-- The larger of the two halves' maxima, biased and rectified. -/
def feat (a : FVec Ideal S36864x256 .f32) (b : Vec Ideal S1x128 .f32) : FVec Ideal S4096x128 .f32 :=
  maximumf (addf (maximumf
    (multiReduction .maximumf [0] S4096x128 (extractStridedSlice S9x4096x128 ![0, 0, 0]
      (shapeCast S9x4096x256 a shapeCasts_S36864x256_S9x4096x256) slices_S9x4096x256_o0_0_0_S9x4096x128)
      0xFF800000#32 reduces_S9x4096x128_S4096x128 (.inl rfl) rfl)
    (multiReduction .maximumf [0] S4096x128 (extractStridedSlice S8x4096x128 ![0, 0, 128]
      (shapeCast S9x4096x256 a shapeCasts_S36864x256_S9x4096x256) slices_S9x4096x256_o0_0_128_S8x4096x128)
      0xFF800000#32 reduces_S8x4096x128_S4096x128 (.inl rfl) rfl))
    (broadcastTo S4096x128 (shapeCast S1x128 b shapeCasts_S1x128_S1x128 : FVec Ideal S1x128 .f32) broadcasts_S1x128_S4096x128))
    (broadcast S4096x128 (Scalar.ofBits .f32 0x00000000#32))

/-- The products feeding the maxima are the three chunks. -/
theorem acc_eq (x0 : Vec Ideal S21x4096 .i8) (W0 W1 W2 : Vec Ideal S256x256 .bf16) (b : Vec Ideal S1x128 .f32) :
    k0_pay18 (F := Ideal) (k0_pay2 x0) (k0_pay15 (k0_pay2 x0) (k0_pay10 (k0_pay2 x0) k0_pay3 (k0_pay4 x0) (k0_pay5 x0)
      (k0_pay6 x0) (k0_pay7 x0) (k0_pay8 x0) (k0_pay9 x0) W0) (k0_pay11 (k0_pay2 x0)) (k0_pay12 (k0_pay2 x0))
      (k0_pay13 (k0_pay2 x0)) (k0_pay14 (k0_pay2 x0)) W1) (k0_pay16 (k0_pay2 x0)) (k0_pay17 (k0_pay2 x0)) W2 b
      = feat (acc (k0_pay2 x0) W0 W1 W2) b := rfl

/-! ## The stages at an index -/

/-- An encoded character: one where its code stands, zero elsewhere. -/
theorem pick (b : BitVec 8) (v : Fin 128) (n : Fin 96) (h : b = BitVec.ofNat 8 n.val) :
    FloatOps.sitofp (F := Ideal) FTy.f32 (BitVec.setWidth 32 (IntOp.cmpi CmpIPredicate.eq (BitVec.signExtend 32 b)
      (BitVec.ofNat 32 v.val))) = if v.val = n.val then (1 : EReal) else 0 := by
  have e : (BitVec.signExtend 32 b = BitVec.ofNat 32 v.val) ↔ v.val = n.val := by
    subst h
    have h1 : ∀ n : Fin 96, BitVec.signExtend 32 (BitVec.ofNat 8 n.val) = BitVec.ofNat 32 n.val := by decide
    rw [h1, ← BitVec.toNat_inj, BitVec.toNat_ofNat, BitVec.toNat_ofNat]
    omega
  by_cases hv : v.val = n.val
  · have hc : IntOp.cmpi CmpIPredicate.eq (BitVec.signExtend 32 b) (BitVec.ofNat 32 v.val) = 1#1 := by
      rw [e.2 hv]; simp [IntOp.cmpi]
    rw [hc, if_pos hv]
    show (((1#32 : BitVec 32).toInt : ℝ) : EReal) = 1
    norm_num
  · have hc : IntOp.cmpi CmpIPredicate.eq (BitVec.signExtend 32 b) (BitVec.ofNat 32 v.val) = 0#1 := by
      show BitVec.ofBool (BitVec.signExtend 32 b == BitVec.ofNat 32 v.val) = 0#1
      rw [beq_eq_false_iff_ne.2 (mt e.1 hv)]; rfl
    rw [hc, if_neg hv]
    show (((0#32 : BitVec 32).toInt : ℝ) : EReal) = 0
    norm_num

/-- The encoded characters: one at the character's own code, zero elsewhere and in the last plane. -/
theorem pay2_at (x : Vec Ideal S21x4096 .i8) (T : Fin 21 → Fin 4096 → Fin 96)
    (hx : ∀ s j, x (ix2 s j) = BitVec.ofNat 8 (T s j).val) (s : Fin 22) (j : Fin 4096) (v : Fin 128) :
    k0_pay2 (F := Ideal) x (ix3 s j v) = if h : s.val < 21 then (if v.val = (T ⟨s, h⟩ j).val then 1 else 0) else 0 := by
  pointwise [k0_pay2]
  split
  · exact pick _ _ _ (hx _ _)
  · rfl

/-- A plane holds the encoded characters of its position. -/
theorem plane_at (x : FVec Ideal S22x4096x128 .bf16) (o : Nat) (h) (ho : o < 22) (j : Fin 4096) (v : Fin 128) :
    plane x o h (ix3 (0 : Fin 1) j v) = x (ix3 (⟨o, ho⟩ : Fin 22) j v) := by
  pointwise [plane]

/-- Plane `p` of nine stacked planes. -/
theorem stack9_at (a : Fin 9 → FVec Ideal S1x4096x128 .bf16) (p : Fin 9) (j : Fin 4096) (v : Fin 128) :
    stack9 a (ix3 p j v) = a p (ix3 (0 : Fin 1) j v) := by
  pointwise [stack9]
  fin_vals p with hk
  all_goals simp only [hk, Nat.reduceSub, Nat.reduceLT, ↓reduceDIte]
  all_goals exact congrArg (fun q : Fin 9 => a q (ix3 (0 : Fin 1) j v)) (Fin.ext hk.symm)

/-- Plane `p` of a stack is plane `2 p + o` of the encoded characters. -/
theorem stack_at (x : FVec Ideal S22x4096x128 .bf16) (o : Nat) (h) (ho : o < 6) (p : Fin 9) (j : Fin 4096) (v : Fin 128) :
    stack x o h (ix3 p j v) = x (ix3 (⟨2 * p.val + o, by omega⟩ : Fin 22) j v) :=
  (stack9_at _ p j v).trans (plane_at x _ _ _ j v)

/-- A chunk is the two stacks' products with the two halves of its third of the table. -/
theorem chunk_at (E O : FVec Ideal S9x4096x128 .bf16) (W : Vec Ideal S256x256 .bf16) (p : Fin 9) (j : Fin 4096) (n : Fin 256) :
    chunk E O W (ix2 (⟨p.val * 4096 + j.val, by omega⟩ : Fin 36864) n) =
      ∑ q : Fin 128, E (ix3 p j q) * W (ix2 (⟨q.val, by omega⟩ : Fin 256) n) +
        ∑ q : Fin 128, O (ix3 p j q) * W (ix2 (⟨128 + q.val, by omega⟩ : Fin 256) n) := by
  pointwise [chunk]

/-- Reading the rows of a product by position. -/
theorem rows_at (a : FVec Ideal S36864x256 .f32) (p : Fin 9) (j : Fin 4096) (n : Fin 256) :
    (shapeCast S9x4096x256 a shapeCasts_S36864x256_S9x4096x256 : FVec Ideal S9x4096x256 .f32) (ix3 p j n) =
      a (ix2 (⟨p.val * 4096 + j.val, by omega⟩ : Fin 36864) n) := by
  pointwise []

/-- The maximum of the even positions. -/
theorem low_at (y : FVec Ideal S9x4096x256 .f32) (j : Fin 4096) (f : Fin 128) :
    multiReduction .maximumf [0] S4096x128 (extractStridedSlice S9x4096x128 ![0, 0, 0] y
      slices_S9x4096x256_o0_0_0_S9x4096x128) 0xFF800000#32 reduces_S9x4096x128_S4096x128 (.inl rfl) rfl (ix2 j f) =
      Finset.univ.fold max (Ideal.ofBits FTy.f32 0xFF800000#32) fun p : Fin 9 => y (ix3 p j (⟨f.val, by omega⟩ : Fin 256)) := by
  pointwise []

/-- The maximum of the odd positions. -/
theorem high_at (y : FVec Ideal S9x4096x256 .f32) (j : Fin 4096) (f : Fin 128) :
    multiReduction .maximumf [0] S4096x128 (extractStridedSlice S8x4096x128 ![0, 0, 128] y
      slices_S9x4096x256_o0_0_128_S8x4096x128) 0xFF800000#32 reduces_S8x4096x128_S4096x128 (.inl rfl) rfl (ix2 j f) =
      Finset.univ.fold max (Ideal.ofBits FTy.f32 0xFF800000#32) fun p : Fin 8 =>
        y (ix3 (⟨p.val, by omega⟩ : Fin 9) j (⟨128 + f.val, by omega⟩ : Fin 256)) := by
  pointwise []

/-- The bias and the rectifier over the larger of two maxima. -/
theorem post_at (u v : FVec Ideal S4096x128 .f32) (b : Vec Ideal S1x128 .f32) (j : Fin 4096) (f : Fin 128) :
    maximumf (addf (maximumf u v)
      (broadcastTo S4096x128 (shapeCast S1x128 b shapeCasts_S1x128_S1x128 : FVec Ideal S1x128 .f32) broadcasts_S1x128_S4096x128))
      (broadcast S4096x128 (Scalar.ofBits .f32 0x00000000#32)) (ix2 j f) =
      max (max (u (ix2 j f)) (v (ix2 j f)) + b (ix2 (0 : Fin 1) f)) 0 := by
  pointwise []

/-- The features at an index, from the product's rows. -/
theorem feat_at (a : FVec Ideal S36864x256 .f32) (b : Vec Ideal S1x128 .f32) (j : Fin 4096) (f : Fin 128) :
    feat a b (ix2 j f) = max (max
      (Finset.univ.fold max (Ideal.ofBits FTy.f32 0xFF800000#32) fun p : Fin 9 =>
        a (ix2 (⟨p.val * 4096 + j.val, by omega⟩ : Fin 36864) (⟨f.val, by omega⟩ : Fin 256)))
      (Finset.univ.fold max (Ideal.ofBits FTy.f32 0xFF800000#32) fun p : Fin 8 =>
        a (ix2 (⟨p.val * 4096 + j.val, by omega⟩ : Fin 36864) (⟨128 + f.val, by omega⟩ : Fin 256)))
      + b (ix2 (0 : Fin 1) f)) 0 := by
  refine (post_at _ _ b j f).trans ?_
  rw [low_at, high_at]
  simp only [rows_at]

/-- The highway layer of the block at an index. -/
theorem pay1_at (h q : FVec Ideal S4096x128 .f32) (bp bg : Vec Ideal S1x128 .f32) (wg : Vec Ideal S128x128 .f32) (j : Fin 4096) (f : Fin 128) :
    k0_pay1 (F := Ideal) h q bp wg bg (ix2 j f) =
      Ideal.logistic (∑ k : Fin 128, h (ix2 j k) * wg (ix2 k f) + bg (ix2 (0 : Fin 1) f)) * max (q (ix2 j f) + bp (ix2 (0 : Fin 1) f)) 0 +
      (1 - Ideal.logistic (∑ k : Fin 128, h (ix2 j k) * wg (ix2 k f) + bg (ix2 (0 : Fin 1) f))) * h (ix2 j f) := by
  pointwise [k0_pay1]

/-- The projection's product at an index. -/
theorem pay19_at (x v138 v166 v168 w b wp) (j : Fin 4096) (f : Fin 128) :
    k0_pay19 (F := Ideal) x v138 v166 v168 w b wp (ix2 j f) =
      ∑ k : Fin 128, k0_pay18 (F := Ideal) x v138 v166 v168 w b (ix2 j k) * wp (ix2 k f) := by
  pointwise [k0_pay19]

/-! ## The sums, with the characters known -/

/-- An encoded character times a table column selects the character's row. -/
theorem select_row (g : Fin 128 → EReal) (n : Fin 96) :
    ∑ q : Fin 128, (if q.val = n.val then (1 : EReal) else 0) * g q = g ⟨n.val, by omega⟩ := by
  rw [Finset.sum_eq_single (⟨n.val, by omega⟩ : Fin 128)]
  · simp
  · intro q _ hq
    rw [if_neg (fun h => hq (Fin.ext h)), zero_mul]
  · intro h; exact absurd (Finset.mem_univ _) h

/-- Slot `s` of the table at character `n`, zero past the last character of the window. -/
def slot (T : Fin 21 → Fin 96) (w : Fin 96 → EReal) (s : Nat) : EReal := if h : s < 21 then w (T ⟨s, h⟩) else 0

/-- The block's encoded characters times one slot. -/
theorem plane_sum (x : Vec Ideal S21x4096 .i8) (T : Fin 4096 → Fin 21 → Fin 96)
    (hx : ∀ s j, x (ix2 s j) = BitVec.ofNat 8 (T j s).val) (s : Nat) (hs : s < 22) (j : Fin 4096) (g : Fin 128 → EReal) :
    ∑ q : Fin 128, k0_pay2 (F := Ideal) x (ix3 (⟨s, hs⟩ : Fin 22) j q) * g q = slot (T j) (fun n => g ⟨n.val, by omega⟩) s := by
  simp only [pay2_at x (fun s j => T j s) hx, slot]
  split
  · exact select_row g _
  · simp

/-- The product's row for position pair `p` of word `j`: one table row per slot, added up. -/
theorem acc_at (x : Vec Ideal S21x4096 .i8) (T : Fin 4096 → Fin 21 → Fin 96)
    (hx : ∀ s j, x (ix2 s j) = BitVec.ofNat 8 (T j s).val) (W0 W1 W2 : Vec Ideal S256x256 .bf16)
    (w : Fin 6 → Fin 96 → Fin 256 → EReal)
    (h0 : ∀ (v : Fin 96) n, W0 (ix2 (⟨v.val, by omega⟩ : Fin 256) n) = w 0 v n)
    (h1 : ∀ (v : Fin 96) n, W0 (ix2 (⟨128 + v.val, by omega⟩ : Fin 256) n) = w 1 v n)
    (h2 : ∀ (v : Fin 96) n, W1 (ix2 (⟨v.val, by omega⟩ : Fin 256) n) = w 2 v n)
    (h3 : ∀ (v : Fin 96) n, W1 (ix2 (⟨128 + v.val, by omega⟩ : Fin 256) n) = w 3 v n)
    (h4 : ∀ (v : Fin 96) n, W2 (ix2 (⟨v.val, by omega⟩ : Fin 256) n) = w 4 v n)
    (h5 : ∀ (v : Fin 96) n, W2 (ix2 (⟨128 + v.val, by omega⟩ : Fin 256) n) = w 5 v n)
    (p : Fin 9) (j : Fin 4096) (n : Fin 256) :
    acc (k0_pay2 x) W0 W1 W2 (ix2 (⟨p.val * 4096 + j.val, by omega⟩ : Fin 36864) n) =
      ∑ s : Fin 6, slot (T j) (fun v => w s v n) (2 * p.val + s.val) := by
  have e : acc (k0_pay2 x) W0 W1 W2 (ix2 (⟨p.val * 4096 + j.val, by omega⟩ : Fin 36864) n) =
      ((0 : EReal) + chunk (stack (k0_pay2 x) 0 (slices_at 0)) (stack (k0_pay2 x) 1 (slices_at 1)) W0 (ix2 (⟨p.val * 4096 + j.val, by omega⟩ : Fin 36864) n)
        + chunk (stack (k0_pay2 x) 2 (slices_at 2)) (stack (k0_pay2 x) 3 (slices_at 3)) W1 (ix2 (⟨p.val * 4096 + j.val, by omega⟩ : Fin 36864) n)
        + chunk (stack (k0_pay2 x) 4 (slices_at 4)) (stack (k0_pay2 x) 5 (slices_at 5)) W2 (ix2 (⟨p.val * 4096 + j.val, by omega⟩ : Fin 36864) n)) := by
    pointwise [acc]
  rw [e, chunk_at, chunk_at, chunk_at]
  simp only [stack_at _ 0 _ (by decide), stack_at _ 1 _ (by decide), stack_at _ 2 _ (by decide), stack_at _ 3 _ (by decide),
    stack_at _ 4 _ (by decide), stack_at _ 5 _ (by decide)]
  rw [plane_sum x T hx _ _ j fun q => W0 (ix2 (⟨q.val, by omega⟩ : Fin 256) n),
    plane_sum x T hx _ _ j fun q => W0 (ix2 (⟨128 + q.val, by omega⟩ : Fin 256) n),
    plane_sum x T hx _ _ j fun q => W1 (ix2 (⟨q.val, by omega⟩ : Fin 256) n),
    plane_sum x T hx _ _ j fun q => W1 (ix2 (⟨128 + q.val, by omega⟩ : Fin 256) n),
    plane_sum x T hx _ _ j fun q => W2 (ix2 (⟨q.val, by omega⟩ : Fin 256) n),
    plane_sum x T hx _ _ j fun q => W2 (ix2 (⟨128 + q.val, by omega⟩ : Fin 256) n)]
  simp only [h0, h1, h2, h3, h4, h5, zero_add, Fin.sum_univ_six, add_assoc]
  rfl

end Cert.KernelIdeal.Block
end
-- ==== Proof.Feature.lean ====
/- The kernel's block, read at an index, is the specification's highway layer over its features. -/
module

public import proofs.«01_k».proof.Proof.Block

@[expose] public section

set_option maxRecDepth 16384

noncomputable section

namespace Cert.KernelIdeal.Block

open Idealize.ShloMosaic Idealize.SL.Sem
open Cert.KernelIdeal Cert.KernelIdeal.Gen Cert.Conv

/-- The fused table: slot `s` holds tap `s` in its first 128 columns and tap `s - 1` in its last 128. -/
structure Fused (e : Emb) (cw : Taps) (w : Fin 6 → Fin 96 → Fin 256 → EReal) : Prop where
  left : ∀ (k : Fin 5) (v : Fin 96) (f : Fin 128), w k.castSucc v ⟨f.val, by omega⟩ = tap e cw k v f
  left_last : ∀ (v : Fin 96) (f : Fin 128), w 5 v ⟨f.val, by omega⟩ = 0
  right : ∀ (k : Fin 5) (v : Fin 96) (f : Fin 128), w k.succ v ⟨128 + f.val, by omega⟩ = tap e cw k v f
  right_first : ∀ (v : Fin 96) (f : Fin 128), w 0 v ⟨128 + f.val, by omega⟩ = 0

variable {e : Emb} {cw : Taps} {w : Fin 6 → Fin 96 → Fin 256 → EReal}

/-- The left columns at pair `p` are the convolution at the even position. -/
theorem even_conv (hw : Fused e cw w) (T : Fin 21 → Fin 96) (p : Fin 9) (f : Fin 128) :
    ∑ s : Fin 6, slot T (fun v => w s v ⟨f.val, by omega⟩) (2 * p.val + s.val) = conv e cw T ⟨2 * p.val, by omega⟩ f := by
  rw [Fin.sum_univ_castSucc]
  have hl : slot T (fun v => w (Fin.last 5) v ⟨f.val, by omega⟩) (2 * p.val + (Fin.last 5).val) = 0 := by
    unfold slot; split
    · exact hw.left_last _ f
    · rfl
  rw [hl, add_zero]
  refine Finset.sum_congr rfl fun k _ => ?_
  have hk : 2 * p.val + k.castSucc.val < 21 := by have := k.isLt; simp only [Fin.val_castSucc]; omega
  unfold slot
  rw [dif_pos hk]
  exact hw.left k _ f

/-- The right columns at pair `p` are the convolution at the odd position. -/
theorem odd_conv (hw : Fused e cw w) (T : Fin 21 → Fin 96) (p : Fin 8) (f : Fin 128) :
    ∑ s : Fin 6, slot T (fun v => w s v ⟨128 + f.val, by omega⟩) (2 * p.val + s.val) = conv e cw T ⟨2 * p.val + 1, by omega⟩ f := by
  rw [Fin.sum_univ_succ]
  have hl : slot T (fun v => w 0 v ⟨128 + f.val, by omega⟩) (2 * p.val + (0 : Fin 6).val) = 0 := by
    unfold slot; split
    · exact hw.right_first _ f
    · rfl
  rw [hl, zero_add]
  refine Finset.sum_congr rfl fun k _ => ?_
  have hk : 2 * p.val + k.succ.val < 21 := by have := k.isLt; simp only [Fin.val_succ]; omega
  unfold slot
  rw [dif_pos hk]
  refine (hw.right k _ f).trans ?_
  congr 2
  exact Fin.ext (by simp only [Fin.val_succ]; omega)

/-- What the windows hold of one block of words: characters, the fused table's thirds, the features' bias. -/
structure Holds (e : Emb) (cw : Taps) (cb : Bias) (T : Fin 4096 → Fin 21 → Fin 96) (x : Vec Ideal S21x4096 .i8)
    (W0 W1 W2 : Vec Ideal S256x256 .bf16) (b : Vec Ideal S1x128 .f32) (w : Fin 6 → Fin 96 → Fin 256 → EReal) : Prop where
  fused : Fused e cw w
  toks : ∀ s j, x (ix2 s j) = BitVec.ofNat 8 (T j s).val
  h0 : ∀ (v : Fin 96) n, W0 (ix2 (⟨v.val, by omega⟩ : Fin 256) n) = w 0 v n
  h1 : ∀ (v : Fin 96) n, W0 (ix2 (⟨128 + v.val, by omega⟩ : Fin 256) n) = w 1 v n
  h2 : ∀ (v : Fin 96) n, W1 (ix2 (⟨v.val, by omega⟩ : Fin 256) n) = w 2 v n
  h3 : ∀ (v : Fin 96) n, W1 (ix2 (⟨128 + v.val, by omega⟩ : Fin 256) n) = w 3 v n
  h4 : ∀ (v : Fin 96) n, W2 (ix2 (⟨v.val, by omega⟩ : Fin 256) n) = w 4 v n
  h5 : ∀ (v : Fin 96) n, W2 (ix2 (⟨128 + v.val, by omega⟩ : Fin 256) n) = w 5 v n
  bias : ∀ f : Fin 128, b (ix2 (0 : Fin 1) f) = cb (ix1 f)

variable {cb : Bias} {T : Fin 4096 → Fin 21 → Fin 96} {x : Vec Ideal S21x4096 .i8}
  {W0 W1 W2 : Vec Ideal S256x256 .bf16} {b : Vec Ideal S1x128 .f32}

/-- The block's features are the specification's. -/
theorem feat_hid (H : Holds e cw cb T x W0 W1 W2 b w) (j : Fin 4096) (f : Fin 128) :
    feat (acc (k0_pay2 x) W0 W1 W2) b (ix2 j f) = hid e cw cb (T j) f := by
  rw [feat_at, fold_max_bot, fold_max_bot]
  have hacc := fun p n => acc_at x T H.toks W0 W1 W2 w H.h0 H.h1 H.h2 H.h3 H.h4 H.h5 p j n
  have h1 : (fun p : Fin 9 => acc (k0_pay2 x) W0 W1 W2 (ix2 (⟨p.val * 4096 + j.val, by omega⟩ : Fin 36864) (⟨f.val, by omega⟩ : Fin 256)))
      = fun p : Fin 9 => conv e cw (T j) ⟨2 * p.val, by omega⟩ f := by
    funext p; exact (hacc p _).trans (even_conv H.fused (T j) p f)
  have h2 : (fun p : Fin 8 => acc (k0_pay2 x) W0 W1 W2 (ix2 (⟨p.val * 4096 + j.val, by omega⟩ : Fin 36864) (⟨128 + f.val, by omega⟩ : Fin 256)))
      = fun p : Fin 8 => conv e cw (T j) ⟨2 * p.val + 1, by omega⟩ f := by
    funext p; exact (hacc ⟨p.val, by omega⟩ _).trans (odd_conv H.fused (T j) p f)
  rw [h1, h2, sup_even_odd fun t => conv e cw (T j) t f, H.bias, relu_sup]
  rfl

/-- The block's result at an index is the specification's. -/
theorem out_at (H : Holds e cw cb T x W0 W1 W2 b w) {wp wg : Mat} {bp bg : Bias} {Wp Wg : Vec Ideal S128x128 .f32}
    {Bp Bg : Vec Ideal S1x128 .f32} (hWp : ∀ k f : Fin 128, Wp (ix2 k f) = wp (ix2 f k)) (hWg : ∀ k f : Fin 128, Wg (ix2 k f) = wg (ix2 f k))
    (hBp : ∀ f : Fin 128, Bp (ix2 (0 : Fin 1) f) = bp (ix1 f)) (hBg : ∀ f : Fin 128, Bg (ix2 (0 : Fin 1) f) = bg (ix1 f))
    (j : Fin 4096) (f : Fin 128) :
    k0_pay1 (F := Ideal) (k0_pay18 (k0_pay2 x) (k0_pay15 (k0_pay2 x) (k0_pay10 (k0_pay2 x) k0_pay3 (k0_pay4 x) (k0_pay5 x)
      (k0_pay6 x) (k0_pay7 x) (k0_pay8 x) (k0_pay9 x) W0) (k0_pay11 (k0_pay2 x)) (k0_pay12 (k0_pay2 x))
      (k0_pay13 (k0_pay2 x)) (k0_pay14 (k0_pay2 x)) W1) (k0_pay16 (k0_pay2 x)) (k0_pay17 (k0_pay2 x)) W2 b)
      (k0_pay19 (k0_pay2 x) (k0_pay15 (k0_pay2 x) (k0_pay10 (k0_pay2 x) k0_pay3 (k0_pay4 x) (k0_pay5 x)
      (k0_pay6 x) (k0_pay7 x) (k0_pay8 x) (k0_pay9 x) W0) (k0_pay11 (k0_pay2 x)) (k0_pay12 (k0_pay2 x))
      (k0_pay13 (k0_pay2 x)) (k0_pay14 (k0_pay2 x)) W1) (k0_pay16 (k0_pay2 x)) (k0_pay17 (k0_pay2 x)) W2 b Wp)
      Bp Wg Bg (ix2 j f) = highway wp bp wg bg (hid e cw cb (T j)) f := by
  rw [pay1_at, pay19_at, acc_eq]
  simp only [feat_hid H, hWp, hWg, hBp, hBg]
  rfl

end Cert.KernelIdeal.Block
end
-- ==== Proof.Table.lean ====
/- The fused table the kernel's first host operations build: the taps' products laid into zeros twice. -/
module

public import proofs.«01_k».proof.Proof.Feature
public import proofs.«01_k».proof.Proof.Gen.KernelIdeal.Frame
public import Idealize.ShloMosaic.Lib.Routing.OpsSet

@[expose] public section

set_option maxRecDepth 16384

noncomputable section

namespace Cert.KernelIdeal.Table

open Idealize.ShloMosaic Idealize.ShloMosaic.Routing Idealize.SL.Sem
open Cert.KernelIdeal Cert.KernelIdeal.Gen Cert.Conv

/-- Every tap's product with every character. -/
def taps (e : Emb) (cw : Taps) : FVec Ideal S5x96x128 .f32 :=
  transpose S5x96x128 [1, 2, 0] (Host.dotGeneral dot_S128x50x5_S96x50_S128x5x96_1_1_02_0_n_n none (φ₁ := .f32) (φ₂ := .f32) cw e :
    FVec Ideal S128x5x96 .f32) transposes_S128x5x96_S5x96x128_1_2_0

/-- A place in the table, as three index words. -/
def place (a b d : BitVec 32) : IVec S3 32 :=
  concatenate S3 0 [⟨S1, broadcastInDim S1 ![] bcast_S_S1 (constantI S_ 32 a)⟩, ⟨S1, broadcastInDim S1 ![] bcast_S_S1 (constantI S_ 32 b)⟩,
    ⟨S1, broadcastInDim S1 ![] bcast_S_S1 (constantI S_ 32 d)⟩] concatenates_S1_S1_S1_S3_d0

/-- The dimension numbers of both stores into the table. -/
abbrev D := scatter_S6x128x256_S3_S5x96x128_012_n_012_0

/-- The taps stored over `x` with their corner at a place. -/
def put (x : FVec Ideal S6x128x256 .f32) (a b d : BitVec 32) (u : FVec Ideal S5x96x128 .f32) : FVec Ideal S6x128x256 .f32 :=
  Host.scatter D (fun _ b => b) x (place a b d) u

/-- The table: zeros, with the taps laid in at the origin and at slot one, column 128. -/
def table (e : Emb) (cw : Taps) : FVec Ideal S6x128x256 .f32 :=
  put (put (broadcastInDim S6x128x256 ![] bcast_S_S6x128x256 (constant S_ .f32 0x00000000#32 : FVec Ideal S_ .f32)) 0#32 0#32 0#32 (taps e cw))
    1#32 0#32 128#32 (taps e cw)

/-- A place's words, one by one. -/
theorem place_at (a b d : BitVec 32) (q : Fin 3) : place a b d (ix1 q) = ![a, b, d] q := by
  pointwise [place]
  fin_vals q with hk
  all_goals simp only [hk, Nat.reduceSub, Nat.reduceLT, ↓reduceDIte]
  · exact congrArg ![a, b, d] (Fin.ext hk.symm : (0 : Fin 3) = q)
  · exact congrArg ![a, b, d] (Fin.ext hk.symm : (1 : Fin 3) = q)
  · exact congrArg ![a, b, d] (Fin.ext hk.symm : (2 : Fin 3) = q)

/-- The store's corner on axis `q` is index word `q`. -/
theorem start_at (k : S5x96x128.Idx) (idx : IVec S3 32) (q : Fin 3) : D.start k idx q = (idx (ix1 q)).toInt := by
  have hm : q ∈ D.scatterDimsToOperandDims := by fin_cases q <;> decide
  have hsi : D.siIdx k ⟨D.scatterDimsToOperandDims.idxOf q, List.idxOf_lt_length_iff.2 hm⟩ = ix1 q := by
    funext b'
    apply Fin.ext
    match b' with
    | ⟨0, _⟩ => fin_cases q <;> rfl
  unfold ScatterDims.start
  rw [dif_pos hm, hsi]

/-- The offset from the corner on axis `q` is the update's own coordinate. -/
theorem window_at (k : S5x96x128.Idx) (q : Fin 3) : D.window k q = (k q).val := by
  fin_cases q <;> rfl

/-- Where an update lands. -/
theorem lands (a b d : BitVec 32) (k : Fin 5) (v : Fin 96) (f : Fin 128) (s : Fin 6) (r : Fin 128) (n : Fin 256) :
    D.resultIdx? (ix3 k v f) (place a b d) = some (ix3 s r n) ↔
      a.toInt + k.val = s.val ∧ b.toInt + v.val = r.val ∧ d.toInt + f.val = n.val := by
  rw [resultIdx?_eq_some]
  constructor
  · intro h
    have h0 := h 0; have h1 := h 1; have h2 := h 2
    rw [start_at, window_at, place_at] at h0 h1 h2
    exact ⟨h0, h1, h2⟩
  · rintro ⟨h0, h1, h2⟩ q
    rw [start_at, window_at, place_at]
    fin_cases q
    · exact h0
    · exact h1
    · exact h2

/-- An element some update lands on. -/
theorem put_hit (x : FVec Ideal S6x128x256 .f32) (a b d : BitVec 32) (u : FVec Ideal S5x96x128 .f32)
    (k : Fin 5) (v : Fin 96) (f : Fin 128) (s : Fin 6) (r : Fin 128) (n : Fin 256)
    (h0 : a.toInt + k.val = s.val) (h1 : b.toInt + v.val = r.val) (h2 : d.toInt + f.val = n.val) :
    put x a b d u (ix3 s r n) = u (ix3 k v f) := by
  refine scatter_set_hit D x _ u _ _ (fun k' h => ?_) (ix3 k v f) ((lands a b d k v f s r n).2 ⟨h0, h1, h2⟩)
  idx_vars k'
  obtain ⟨g0, g1, g2⟩ := (lands a b d _ _ _ s r n).1 h
  have e0 : k'0 = k := Fin.ext (by omega)
  have e1 : k'1 = v := Fin.ext (by omega)
  have e2 : k'2 = f := Fin.ext (by omega)
  rw [e0, e1, e2]

/-- An element no update lands on. -/
theorem put_miss (x : FVec Ideal S6x128x256 .f32) (a b d : BitVec 32) (u : FVec Ideal S5x96x128 .f32)
    (s : Fin 6) (r : Fin 128) (n : Fin 256)
    (h : ∀ (k : Fin 5) (v : Fin 96) (f : Fin 128), ¬(a.toInt + k.val = s.val ∧ b.toInt + v.val = r.val ∧ d.toInt + f.val = n.val)) :
    put x a b d u (ix3 s r n) = x (ix3 s r n) := by
  refine scatter_set_miss D x _ u _ fun k' hk => ?_
  idx_vars k'
  exact h _ _ _ ((lands a b d _ _ _ s r n).1 hk)

/-- A tap's product with a character is the specification's. -/
theorem taps_at (e : Emb) (cw : Taps) (k : Fin 5) (v : Fin 96) (f : Fin 128) : taps e cw (ix3 k v f) = tap e cw k v f := by
  pointwise [taps]
  rfl

/-- The table's ground is zero. -/
theorem ground_at (s : Fin 6) (r : Fin 128) (n : Fin 256) :
    broadcastInDim S6x128x256 ![] bcast_S_S6x128x256 (constant S_ .f32 0x00000000#32 : FVec Ideal S_ .f32) (ix3 s r n) = (0 : EReal) := by
  pointwise []

/-- The index word zero, signed. -/
theorem toInt_0 : (0#32 : BitVec 32).toInt = 0 := by decide
/-- The index word one, signed. -/
theorem toInt_1 : (1#32 : BitVec 32).toInt = 1 := by decide
/-- The index word 128, signed. -/
theorem toInt_128 : (128#32 : BitVec 32).toInt = 128 := by decide

/-- The table is the fused table of the specification's taps. -/
theorem fused (e : Emb) (cw : Taps) :
    Block.Fused e cw fun s v n => table e cw (ix3 s (⟨v.val, by omega⟩ : Fin 128) n) where
  left k v f := by
    refine (put_miss _ _ _ _ _ _ _ _ fun k' v' f' h => ?_).trans
      ((put_hit _ _ _ _ _ k v f _ _ _ ?_ ?_ ?_).trans (taps_at e cw k v f))
    · have h2 := h.2.2; rw [toInt_128] at h2; dsimp only at h2; omega
    · rw [toInt_0, zero_add]; rfl
    all_goals rw [toInt_0, zero_add]
  left_last v f := by
    refine (put_miss _ _ _ _ _ _ _ _ fun k' v' f' h => ?_).trans ((put_miss _ _ _ _ _ _ _ _ fun k' v' f' h => ?_).trans (ground_at _ _ _))
    · have h2 := h.2.2; rw [toInt_128] at h2; dsimp only at h2; omega
    · have h2 := h.1; rw [toInt_0] at h2
      have h5 : ((5 : Fin 6).val : Int) = 5 := rfl
      omega
  right k v f := by
    refine (put_hit _ _ _ _ _ k v f _ _ _ ?_ ?_ ?_).trans (taps_at e cw k v f)
    · rw [toInt_1, Fin.val_succ]; omega
    · rw [toInt_0, zero_add]
    · rw [toInt_128]; push_cast; rfl
  right_first v f := by
    refine (put_miss _ _ _ _ _ _ _ _ fun k' v' f' h => ?_).trans ((put_miss _ _ _ _ _ _ _ _ fun k' v' f' h => ?_).trans (ground_at _ _ _))
    · have h2 := h.1; rw [toInt_1] at h2
      have h5 : ((0 : Fin 6).val : Int) = 0 := rfl
      omega
    · have h2 := h.2.2; rw [toInt_0] at h2; dsimp only at h2; omega

variable (m : (ℓ : Loc nD τ sig) → Buf (Elt Ideal) ℓ) (c : Dev nD)

/-- The region's table operand is the fused table, its slots one below the other. -/
theorem v17_eq : V m c main_v17 = (truncf .bf16 (shapeCast S768x256 (table (m (c.tc.loc main_arg1)) (m (c.tc.loc main_arg2)))
    shapeCasts_S6x128x256_S768x256) bitsLt_bf16_f32 : FVec Ideal S768x256 .bf16) := by
  unfold V V0 hostOps0
  simp only [List.flatten_cons, List.flatten_nil, List.append_nil]
  after_results
  rfl

/-- Row `128 s + r` of the operand is row `r` of slot `s`. -/
theorem flat_at (t : FVec Ideal S6x128x256 .f32) (s : Fin 6) (r : Fin 128) (n : Fin 256) :
    (truncf .bf16 (shapeCast S768x256 t shapeCasts_S6x128x256_S768x256) bitsLt_bf16_f32 : FVec Ideal S768x256 .bf16)
      (ix2 (⟨s.val * 128 + r.val, by omega⟩ : Fin 768) n) = t (ix3 s r n) := by
  pointwise []

/-- Row `128 s + r` of the region's table operand is row `r` of slot `s` of the fused table. -/
theorem v17_at (s : Fin 6) (r : Fin 128) (n : Fin 256) :
    V m c main_v17 (ix2 (⟨s.val * 128 + r.val, by omega⟩ : Fin 768) n) = table (m (c.tc.loc main_arg1)) (m (c.tc.loc main_arg2)) (ix3 s r n) := by
  rw [v17_eq]
  exact flat_at _ s r n

end Cert.KernelIdeal.Table
end
-- ==== Proof.Host.lean ====
/- What the kernel's windows hold when its grid starts, read at an index. -/
module

public import proofs.«01_k».proof.Proof.Spec
public import proofs.«01_k».proof.Proof.Gen.KernelIdeal.Frame
public import Idealize.ShloMosaic.Lib.Pipeline.ValueKit

@[expose] public section

set_option maxRecDepth 16384

noncomputable section

namespace Cert.KernelIdeal.Host

open Idealize.ShloMosaic Idealize.SL.Sem
open Cert.KernelIdeal Cert.KernelIdeal.Gen Cert.Conv

variable (m : (ℓ : Loc nD τ sig) → Buf (Elt Ideal) ℓ) (c : Dev nD)

/-- A character in range survives being narrowed to a byte. -/
theorem narrow_word : ∀ n : Fin 96, (BitVec.ofNat 32 n.val).setWidth 8 = BitVec.ofNat 8 n.val := by decide

/-- The character window: character `b` of word `r` of the flat list, as a byte. -/
theorem v2_at (b : Fin 21) (r : Fin 20480) : V m c main_v2 (ix2 b r) =
    (m (c.tc.loc main_arg0) (ix3 (⟨r.val / 1024, by omega⟩ : Fin 20) (⟨r.val % 1024, by omega⟩ : Fin 1024) b) : BitVec 32).setWidth 8 := by
  unfold V V0 hostOps0
  simp only [List.flatten_cons, List.flatten_nil, List.append_nil]
  after_results
  pointwise []

/-- The convolution's bias, as a row. -/
theorem v18_at (f : Fin 128) : V m c main_v18 (ix2 (0 : Fin 1) f) = m (c.tc.loc main_arg3) (ix1 f) := by
  unfold V V0 hostOps0
  simp only [List.flatten_cons, List.flatten_nil, List.append_nil]
  after_results
  pointwise []

/-- The projection's bias, as a row. -/
theorem v19_at (f : Fin 128) : V m c main_v19 (ix2 (0 : Fin 1) f) = m (c.tc.loc main_arg5) (ix1 f) := by
  unfold V V0 hostOps0
  simp only [List.flatten_cons, List.flatten_nil, List.append_nil]
  after_results
  pointwise []

/-- The gate's bias, as a row. -/
theorem v20_at (f : Fin 128) : V m c main_v20 (ix2 (0 : Fin 1) f) = m (c.tc.loc main_arg7) (ix1 f) := by
  unfold V V0 hostOps0
  simp only [List.flatten_cons, List.flatten_nil, List.append_nil]
  after_results
  pointwise []

/-- The projection's matrix, transposed. -/
theorem v21_at (k f : Fin 128) : V m c main_v21 (ix2 k f) = m (c.tc.loc main_arg4) (ix2 f k) := by
  unfold V V0 hostOps0
  simp only [List.flatten_cons, List.flatten_nil, List.append_nil]
  after_results
  pointwise []

/-- The gate's matrix, transposed. -/
theorem v22_at (k f : Fin 128) : V m c main_v22 (ix2 k f) = m (c.tc.loc main_arg6) (ix2 f k) := by
  unfold V V0 hostOps0
  simp only [List.flatten_cons, List.flatten_nil, List.append_nil]
  after_results
  pointwise []

end Cert.KernelIdeal.Host
end
-- ==== Proof.Value.lean ====
/- What the kernel returns, read at an index. -/
module

public import proofs.«01_k».proof.Proof.Table
public import proofs.«01_k».proof.Proof.Host

@[expose] public section

set_option maxRecDepth 16384

noncomputable section

namespace Cert.KernelIdeal.Value

open Idealize.ShloMosaic Idealize.SL.Sem
open Cert.KernelIdeal Cert.KernelIdeal.Gen Cert.Conv

variable (m : (ℓ : Loc nD τ sig) → Buf (Elt Ideal) ℓ) (c : Dev nD)

/-- At grid point `t` the character window and the result stand over block `t` of the words, the others over all they read. -/
theorem idx : ∀ t : Fin cfg0.N, win0_0.index t = ![0, t.val] ∧ win0_1.index t = ![0, 0] ∧ win0_2.index t = ![0, 0] ∧
    win0_3.index t = ![0, 0] ∧ win0_4.index t = ![0, 0] ∧ win0_5.index t = ![0, 0] ∧ win0_6.index t = ![0, 0] ∧
    win0_7.index t = ![t.val, 0] := (by decide +kernel : ∀ t : Fin grid0.N, _)

/-- The word at place `j` of block `t`. -/
abbrev word (t : Fin cfg0.N) (j : Fin 4096) : Fin 20480 := ⟨t.val * 4096 + j.val, by have h : t.val < 5 := t.isLt; omega⟩

/-- The character window's block: the words of block `t`. -/
theorem blk0_at (t : Fin cfg0.N) (b : Fin 21) (j : Fin 4096) : iblk m c 0 t (ix2 b j) = V m c main_v2 (ix2 b (word t j)) := by
  blk_point [iblk, V, idx t]

/-- The table window stands over the whole table. -/
theorem tab_emb (t : Fin cfg0.N) (r : Fin 768) (n : Fin 256) : ((cfg0.win 1).blk t).view.emb (ix2 r n) = ix2 r n := by
  blk_ext [idx t]

/-- The table window's block is the whole table. -/
theorem blk1_at (t : Fin cfg0.N) (r : Fin 768) (n : Fin 256) : iblk m c 1 t (ix2 r n) = V m c main_v17 (ix2 r n) :=
  congrArg (V m c main_v17) (tab_emb t r n)

/-- The convolution's bias window is the whole bias. -/
theorem blk2_at (t : Fin cfg0.N) (f : Fin 128) : iblk m c 2 t (ix2 (0 : Fin 1) f) = V m c main_v18 (ix2 (0 : Fin 1) f) := by
  blk_point [iblk, V, idx t]

/-- The projection's matrix window is the whole matrix. -/
theorem blk3_at (t : Fin cfg0.N) (k f : Fin 128) : iblk m c 3 t (ix2 k f) = V m c main_v21 (ix2 k f) := by
  blk_point [iblk, V, idx t]

/-- The projection's bias window is the whole bias. -/
theorem blk4_at (t : Fin cfg0.N) (f : Fin 128) : iblk m c 4 t (ix2 (0 : Fin 1) f) = V m c main_v19 (ix2 (0 : Fin 1) f) := by
  blk_point [iblk, V, idx t]

/-- The gate's matrix window is the whole matrix. -/
theorem blk5_at (t : Fin cfg0.N) (k f : Fin 128) : iblk m c 5 t (ix2 k f) = V m c main_v22 (ix2 k f) := by
  blk_point [iblk, V, idx t]

/-- The gate's bias window is the whole bias. -/
theorem blk6_at (t : Fin cfg0.N) (f : Fin 128) : iblk m c 6 t (ix2 (0 : Fin 1) f) = V m c main_v20 (ix2 (0 : Fin 1) f) := by
  blk_point [iblk, V, idx t]

/-- The result window's block `t` is block `t` of the result. -/
theorem out_emb (t : Fin cfg0.N) (j : Fin 4096) (f : Fin 128) :
    ((View.whole main_v23).slice (win0_7.rect t)).emb (ix2 j f) = ix2 (word t j) f := by
  blk_point [idx t]

/-- The first third of the table's rows. -/
theorem third0 (B : Vec Ideal S768x256 .bf16) (r n : Fin 256) : View.ld B r0_1 (ix2 r n) = B (ix2 (⟨r.val, by omega⟩ : Fin 768) n) := by
  pointwise []

/-- The second third of the table's rows. -/
theorem third1 (B : Vec Ideal S768x256 .bf16) (r n : Fin 256) : View.ld B r0_2 (ix2 r n) = B (ix2 (⟨256 + r.val, by omega⟩ : Fin 768) n) := by
  pointwise []

/-- The last third of the table's rows. -/
theorem third2 (B : Vec Ideal S768x256 .bf16) (r n : Fin 256) : View.ld B r0_3 (ix2 r n) = B (ix2 (⟨512 + r.val, by omega⟩ : Fin 768) n) := by
  pointwise []

/-- A row of the table's window: its slot's character. -/
theorem row_at (t : Fin cfg0.N) (s : Fin 6) (v : Fin 96) (n : Fin 256) (r : Fin 768) (h : r.val = s.val * 128 + v.val) :
    iblk m c 1 t (ix2 r n) = Table.table (m (c.tc.loc main_arg1)) (m (c.tc.loc main_arg2)) (ix3 s (⟨v.val, by omega⟩ : Fin 128) n) := by
  have hr : r = ⟨s.val * 128 + v.val, by omega⟩ := Fin.ext h
  rw [blk1_at, hr]
  exact Table.v17_at m c s ⟨v.val, by omega⟩ n

variable (T : Fin 20 → Fin 1024 → Fin 21 → Fin 96)

/-- Word `r` of the flat list. -/
def flat (r : Fin 20480) : Fin 21 → Fin 96 := T ⟨r.val / 1024, by omega⟩ ⟨r.val % 1024, by omega⟩

variable (hT : ∀ s w b, m (c.tc.loc main_arg0) (ix3 s w b) = BitVec.ofNat 32 (T s w b).val)

include hT in
/-- What block `t`'s windows hold. -/
theorem holds (t : Fin cfg0.N) : Block.Holds (m (c.tc.loc main_arg1)) (m (c.tc.loc main_arg2)) (m (c.tc.loc main_arg3))
    (fun j => flat T (word t j)) (iblk m c 0 t) (View.ld (iblk m c 1 t) r0_1) (View.ld (iblk m c 1 t) r0_2) (View.ld (iblk m c 1 t) r0_3)
    (iblk m c 2 t) fun s v n => Table.table (m (c.tc.loc main_arg1)) (m (c.tc.loc main_arg2)) (ix3 s (⟨v.val, by omega⟩ : Fin 128) n) where
  fused := Table.fused _ _
  toks b j := by
    refine (blk0_at m c t b j).trans ((Host.v2_at m c b _).trans ?_)
    rw [hT]
    exact Host.narrow_word _
  h0 v n := (third0 _ _ n).trans (row_at m c t 0 v n _ (by simp))
  h1 v n := (third0 _ _ n).trans (row_at m c t 1 v n _ (by simp))
  h2 v n := (third1 _ _ n).trans (row_at m c t 2 v n _ (by simp))
  h3 v n := (third1 _ _ n).trans (row_at m c t 3 v n _ (by simp; omega))
  h4 v n := (third2 _ _ n).trans (row_at m c t 4 v n _ (by simp))
  h5 v n := (third2 _ _ n).trans (row_at m c t 5 v n _ (by simp; omega))
  bias f := (blk2_at m c t f).trans (Host.v18_at m c f)

/-- The result array: the specification's highway layer over the specification's features, word by word. -/
def final : FVec Ideal S20480x128 .f32 := fun i =>
  highway (m (c.tc.loc main_arg4)) (m (c.tc.loc main_arg5)) (m (c.tc.loc main_arg6)) (m (c.tc.loc main_arg7))
    (hid (m (c.tc.loc main_arg1)) (m (c.tc.loc main_arg2)) (m (c.tc.loc main_arg3)) (flat T (i 0))) (i 1)

include hT in
/-- The array the grid leaves is the result array. -/
theorem arr_eq : (dats m 0 c).arrAt 7 cfg0.N = final m c T := by
  refine (dats m 0 c).arrAt_eq_of_covers 7 _ (by decide +kernel) fun t _ y => ?_
  blk_simp
  rw [after0_7]
  unfold_out out0_7
  frame_out
  idx_vars y
  rw [out_emb]
  exact Block.out_at (holds m c T hT t) (fun k f => (blk3_at m c t k f).trans (Host.v21_at m c k f))
    (fun k f => (blk5_at m c t k f).trans (Host.v22_at m c k f)) (fun f => (blk4_at m c t f).trans (Host.v19_at m c f))
    (fun f => (blk6_at m c t f).trans (Host.v20_at m c f)) _ _

/-- The returned array is the grid's, cut back into rows. -/
theorem tail_eq : Pipeline.afterTail₀ cfgs (dats m) 0 (V0 m) [hostOps1] c main_v24 =
    shapeCast (α := Elt Ideal .f32) (s := S20480x128) S20x1024x128 ((dats m 0 c).arrAt 7 cfg0.N) shapeCasts_S20480x128_S20x1024x128 := by
  unfold Pipeline.afterTail₀ hostOps1
  simp only [List.flatten_cons, List.flatten_nil, List.append_nil]
  after_results
  exact congrArg (fun z => shapeCast (α := Elt Ideal .f32) (s := S20480x128) S20x1024x128 z shapeCasts_S20480x128_S20x1024x128)
    (Pipeline.withArrays_arr spec0 (by decide) c (V0 m c) (fun w => (dats m 0 c).arrAt w cfg0.N) 7)

/-- A flat array cut back into rows, read at an index. -/
theorem cut_at (y : FVec Ideal S20480x128 .f32) (s : Fin 20) (w : Fin 1024) (f : Fin 128) :
    (shapeCast (α := Elt Ideal .f32) (s := S20480x128) S20x1024x128 y shapeCasts_S20480x128_S20x1024x128 : FVec Ideal S20x1024x128 .f32)
      (ix3 s w f) = y (ix2 (⟨s.val * 1024 + w.val, by omega⟩ : Fin 20480) f) := by
  pointwise []

/-- Word `s * 1024 + w` of the flat list is word `w` of row `s`. -/
theorem flat_word (s : Fin 20) (w : Fin 1024) : flat T ⟨s.val * 1024 + w.val, by omega⟩ = T s w := by
  have h0 : (s.val * 1024 + w.val) / 1024 = s.val := by omega
  have h1 : (s.val * 1024 + w.val) % 1024 = w.val := by omega
  unfold flat
  simp only [h0, h1]

include hT in
/-- What the kernel returns, when its characters are `T`: the specification's highway layer over the specification's features. -/
theorem result_at (s : Fin 20) (w : Fin 1024) (f : Fin 128) :
    (Pipeline.afterTail₀ cfgs (dats m) 0 (V0 m) [hostOps1] c main_v24 : FVec Ideal S20x1024x128 .f32) (ix3 s w f) =
      highway (m (c.tc.loc main_arg4)) (m (c.tc.loc main_arg5)) (m (c.tc.loc main_arg6)) (m (c.tc.loc main_arg7))
        (hid (m (c.tc.loc main_arg1)) (m (c.tc.loc main_arg2)) (m (c.tc.loc main_arg3)) (T s w)) f := by
  rw [tail_eq, arr_eq m c T hT, cut_at]
  show highway _ _ _ _ (hid _ _ _ (flat T ⟨s.val * 1024 + w.val, by omega⟩)) f = _
  rw [flat_word]

end Cert.KernelIdeal.Value
end
-- ==== Proof.Lookup.lean ====
/- The reference's embedding lookup, read at an index when every character is in range. -/
module

public import proofs.«01_k».proof.Proof.Spec
public import proofs.«01_k».proof.Proof.Gen.ReferenceIdeal.Run

@[expose] public section

set_option maxRecDepth 16384

noncomputable section

namespace Cert.ReferenceIdeal.Lookup

open Idealize.ShloMosaic Idealize.SL.Sem
open Cert.ReferenceIdeal Cert.ReferenceIdeal.Gen Cert.Conv

/-- The characters, negative ones counted from the end, as one index word each. -/
def wrapped (t : IVec S20x1024x21 32) : IVec S20x1024x21x1 32 :=
  broadcastInDim S20x1024x21x1 ![0, 1, 2] bcast_S20x1024x21_S20x1024x21x1_0_1_2
    (select (cmpi .slt t (broadcastInDim S20x1024x21 ![] bcast_S_S20x1024x21 (constantI S_ 32 0#32)))
      (addi t (broadcastInDim S20x1024x21 ![] bcast_S_S20x1024x21 (constantI S_ 32 96#32))) t)

/-- Which characters name a row of the embedding. -/
def inside (i : IVec S20x1024x21x1 32) : IVec S20x1024x21 1 :=
  Host.reduce IntOp.andi (andi (cmpi .sge i (broadcastInDim S20x1024x21x1 ![] bcast_S_S20x1024x21x1 (constantI S_ 32 0#32)))
    (cmpi .sle i (broadcastInDim S20x1024x21x1 ![0, 1, 2, 3] bcast_S1x1x1x1_S20x1024x21x1_0_1_2_3
      (broadcastInDim S1x1x1x1 ![3] bcast_S1_S1x1x1x1_3 (constantI S1 32 95#32)))))
    (constantI S_ 1 1#1) reducesTo_S20x1024x21x1_S20x1024x21_d3 h_S_

/-- The rows of the embedding the index words name. -/
def rows (e : Emb) (i : IVec S20x1024x21x1 32) : FVec Ideal S20x1024x21x50 .f32 :=
  Host.gather gather_S96x50_S20x1024x21x1_S20x1024x21x50_3_0_n_n_0_3_150 e i

/-- The lookup: the named rows, a filler where no row is named. -/
def look (e : Emb) (t : IVec S20x1024x21 32) : FVec Ideal S20x1024x21x50 .f32 :=
  select (broadcastInDim S20x1024x21x50 ![0, 1, 2] bcast_S20x1024x21_S20x1024x21x50_0_1_2 (inside (wrapped t))) (rows e (wrapped t))
    (broadcastInDim S20x1024x21x50 ![] bcast_S_S20x1024x21x50 (constant S_ .f32 0x7FC00000#32))

/-- The words, characters down the last axis. -/
def wide (e : Emb) (t : IVec S20x1024x21 32) : FVec Ideal S20480x50x21 .f32 :=
  shapeCast S20480x50x21 (transpose S20x1024x50x21 [0, 1, 3, 2] (look e t) transposes_S20x1024x21x50_S20x1024x50x21_0_1_3_2)
    shapeCasts_S20x1024x50x21_S20480x50x21

/-- The dimension numbers of the lookup. -/
abbrev G := gather_S96x50_S20x1024x21x1_S20x1024x21x50_3_0_n_n_0_3_150

/-- The lookup's row is the index word, read signed and clamped into the embedding. -/
theorem rows_at (e : Emb) (i : IVec S20x1024x21x1 32) (s : Fin 20) (w : Fin 1024) (b : Fin 21) (c : Fin 50) :
    rows e i (ix4 s w b c) = e (ix2 (⟨min (i (ix4 s w b (0 : Fin 1))).toInt.toNat 95, by omega⟩ : Fin 96) c) := by
  unfold rows Host.gather
  congr 1
  funext a
  refine Fin.ext ?_
  show G.start (ix4 s w b c) i a + G.batchCoord (ix4 s w b c) a + G.offCoord (ix4 s w b c) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin S96x50.rank) ∈ G.startIndexMap from List.mem_singleton.mpr rfl)]
    have hsi : G.siIdx (ix4 s w b c) ⟨List.idxOf (⟨0, by decide⟩ : Fin S96x50.rank) G.startIndexMap,
        List.idxOf_lt_length_iff.2 (List.mem_singleton.mpr rfl)⟩ = ix4 s w b (0 : Fin 1) := by
      funext b'; refine Fin.ext ?_
      match b' with
      | ⟨0, _⟩ => rfl
      | ⟨1, _⟩ => rfl
      | ⟨2, _⟩ => rfl
      | ⟨3, _⟩ => rfl
    rw [hsi]
    rfl
  | ⟨1, _⟩ =>
    unfold GatherDims.start
    rw [dif_neg (show (⟨1, by decide⟩ : Fin S96x50.rank) ∉ G.startIndexMap by decide), Nat.zero_add]
    rfl

/-- A character in range is not counted from the end. -/
theorem wrap_word : ∀ n : Fin 96, Scalar.select (IntOp.cmpi .slt (BitVec.ofNat 32 n.val) 0#32)
    (IntOp.addi (BitVec.ofNat 32 n.val) 96#32) (BitVec.ofNat 32 n.val) = BitVec.ofNat 32 n.val := by decide

/-- An index word of a character in range is the character. -/
theorem wrapped_at (t : IVec S20x1024x21 32) (s : Fin 20) (w : Fin 1024) (b : Fin 21) (n : Fin 96)
    (ht : t (ix3 s w b) = BitVec.ofNat 32 n.val) : wrapped t (ix4 s w b (0 : Fin 1)) = BitVec.ofNat 32 n.val := by
  pointwise [wrapped, ht]
  exact wrap_word n

/-- A character in range passes the lookup's range test. -/
theorem inside_word : ∀ n : Fin 96, IntOp.andi (IntOp.andi (IntOp.cmpi .sge (BitVec.ofNat 32 n.val) 0#32)
    (IntOp.cmpi .sle (BitVec.ofNat 32 n.val) 95#32)) 1#1 = 1#1 := by decide

/-- A character in range names a row. -/
theorem inside_at (i : IVec S20x1024x21x1 32) (s : Fin 20) (w : Fin 1024) (b : Fin 21) (n : Fin 96)
    (hi : i (ix4 s w b (0 : Fin 1)) = BitVec.ofNat 32 n.val) : inside i (ix3 s w b) = 1#1 := by
  pointwise [inside, hi]
  rw [Finset.univ_unique, Finset.fold_singleton]
  show IntOp.andi (IntOp.andi (IntOp.cmpi .sge (i (ix4 s w b (0 : Fin 1))) 0#32) (IntOp.cmpi .sle (i (ix4 s w b (0 : Fin 1))) 95#32)) 1#1 = 1#1
  rw [hi]
  exact inside_word n

/-- A character in range is not moved by the lookup's clamp. -/
theorem clamp_word : ∀ n : Fin 96, min (BitVec.ofNat 32 n.val).toInt.toNat 95 = n.val := by decide

/-- The lookup of a character in range is its row. -/
theorem look_at (e : Emb) (t : IVec S20x1024x21 32) (s : Fin 20) (w : Fin 1024) (b : Fin 21) (c : Fin 50) (n : Fin 96)
    (ht : t (ix3 s w b) = BitVec.ofNat 32 n.val) : look e t (ix4 s w b c) = e (ix2 n c) := by
  have hi := wrapped_at t s w b n ht
  pointwise [look, inside_at _ s w b n hi, rows_at, hi]
  congr 2
  exact Fin.ext (clamp_word n)

/-- Word `r` of the flat list is word `r % 1024` of row `r / 1024`. -/
theorem wide_at (e : Emb) (t : IVec S20x1024x21 32) (s : Fin 20) (w : Fin 1024) (b : Fin 21) (c : Fin 50) (n : Fin 96)
    (ht : t (ix3 s w b) = BitVec.ofNat 32 n.val) :
    wide e t (ix3 (⟨s.val * 1024 + w.val, by omega⟩ : Fin 20480) c b) = e (ix2 n c) := by
  refine Eq.trans ?_ (look_at e t s w b c n ht)
  pointwise [wide]

end Cert.ReferenceIdeal.Lookup
end
-- ==== Proof.Reference.lean ====
/- What the reference returns, read at an index. -/
module

public import proofs.«01_k».proof.Proof.Lookup

@[expose] public section

set_option maxRecDepth 16384

noncomputable section

namespace Cert.ReferenceIdeal.Lookup

open Idealize.ShloMosaic Idealize.SL.Sem
open Cert.ReferenceIdeal Cert.ReferenceIdeal.Gen Cert.Conv

/-- One tap over every position of every word. -/
def tapped (x : FVec Ideal S20480x50x21 .f32) (cw : Taps) (k : Nat) (h : S128x50x5.Slices ![0, 0, k] S128x50x1)
    (h' : S20480x50x21.Slices ![0, 0, k] S20480x50x17) : FVec Ideal S20480x128x17 .f32 :=
  transpose S20480x128x17 [1, 0, 2] (Host.dotGeneral dot_S128x50_S20480x50x17_S128x20480x17_1_1_0_02_n_n none (φ₁ := .f32) (φ₂ := .f32)
    (shapeCast S128x50 (extractStridedSlice S128x50x1 ![0, 0, k] cw h) shapeCasts_S128x50x1_S128x50)
    (extractStridedSlice S20480x50x17 ![0, 0, k] x h')) transposes_S128x20480x17_S20480x128x17_1_0_2

/-- Every tap lies among the five. -/
theorem tap_slices : ∀ k : Fin 5, S128x50x5.Slices ![0, 0, k.val] S128x50x1 := by decide
/-- Every tap's seventeen characters lie in the word. -/
theorem word_slices : ∀ k : Fin 5, S20480x50x21.Slices ![0, 0, k.val] S20480x50x17 := by decide

/-- The five taps added up from zero. -/
def summed (x : FVec Ideal S20480x50x21 .f32) (cw : Taps) : FVec Ideal S20480x128x17 .f32 :=
  addf (addf (addf (addf (addf (broadcastInDim S20480x128x17 ![] bcast_S_S20480x128x17 (constant S_ .f32 0x00000000#32))
    (tapped x cw 0 (tap_slices 0) (word_slices 0))) (tapped x cw 1 (tap_slices 1) (word_slices 1)))
    (tapped x cw 2 (tap_slices 2) (word_slices 2))) (tapped x cw 3 (tap_slices 3) (word_slices 3)))
    (tapped x cw 4 (tap_slices 4) (word_slices 4))

/-- The largest rectified, biased sum over the positions. -/
def best (y : FVec Ideal S20480x128x17 .f32) (cb : Bias) : FVec Ideal S20480x128 .f32 :=
  Host.reduce FloatOps.maximumf (maximumf (addf y (broadcastInDim S20480x128x17 ![0, 1, 2] bcast_S1x128x1_S20480x128x17_0_1_2
    (broadcastInDim S1x128x1 ![1] bcast_S128_S1x128x1_1 cb))) (broadcastInDim S20480x128x17 ![] bcast_S_S20480x128x17 (constant S_ .f32 0x00000000#32)))
    (constant S_ .f32 0xFF800000#32) reducesTo_S20480x128x17_S20480x128_d2 h_S_

/-- A linear map with its bias. -/
def linear (h : FVec Ideal S20480x128 .f32) (w : Mat) (b : Bias) : FVec Ideal S20480x128 .f32 :=
  addf (Host.dotGeneral dot_S20480x128_S128x128_S20480x128_1_0_0_1_n_n none h (transpose S128x128 [1, 0] w transposes_S128x128_S128x128_1_0 : FVec Ideal S128x128 .f32))
    (broadcastInDim S20480x128 ![0, 1] bcast_S1x128_S20480x128_0_1 (broadcastInDim S1x128 ![1] bcast_S128_S1x128_1 b))

/-- The number one everywhere. -/
def ones : FVec Ideal S20480x128 .f32 := broadcastInDim S20480x128 ![] bcast_S_S20480x128 (constant S_ .f32 0x3F800000#32)

/-- The gate. -/
def gate (y : FVec Ideal S20480x128 .f32) : FVec Ideal S20480x128 .f32 := Host.divf ones (addf ones (Host.exp (Host.negf y)))

/-- The highway layer. -/
def mixed (h : FVec Ideal S20480x128 .f32) (wp : Mat) (bp : Bias) (wg : Mat) (bg : Bias) : FVec Ideal S20480x128 .f32 :=
  addf (mulf (gate (linear h wg bg)) (maximumf (linear h wp bp) (broadcastInDim S20480x128 ![] bcast_S_S20480x128 (constant S_ .f32 0x00000000#32))))
    (mulf (subf ones (gate (linear h wg bg))) h)

variable (m : (ℓ : Loc nD τ sig) → Buf (Elt Ideal) ℓ) (c : Dev nD)

/-- The reference's result is its stages composed. -/
theorem result_eq : Value.res_main_v61 m c = shapeCast S20x1024x128
    (mixed (best (summed (wide (m (c.tc.loc main_arg1)) (m (c.tc.loc main_arg0))) (m (c.tc.loc main_arg2))) (m (c.tc.loc main_arg3)))
      (m (c.tc.loc main_arg4)) (m (c.tc.loc main_arg5)) (m (c.tc.loc main_arg6)) (m (c.tc.loc main_arg7))) shapeCasts_S20480x128_S20x1024x128 := rfl

/-- A tap at a position: the tap's column against the character under it. -/
theorem tapped_at (x : FVec Ideal S20480x50x21 .f32) (cw : Taps) (k : Fin 5) (h) (h') (r : Fin 20480) (f : Fin 128) (t : Fin 17) :
    tapped x cw k.val h h' (ix3 r f t) = ∑ c : Fin 50, cw (ix3 f c k) * x (ix3 r c (⟨t.val + k.val, by omega⟩ : Fin 21)) := by
  pointwise [tapped]
  refine Finset.sum_congr rfl fun c _ => ?_
  congr 3
  exact Fin.ext (Nat.add_comm _ _)

/-- The sum of the taps at a position. -/
theorem summed_at (x : FVec Ideal S20480x50x21 .f32) (cw : Taps) (r : Fin 20480) (f : Fin 128) (t : Fin 17) :
    summed x cw (ix3 r f t) = ∑ k : Fin 5, ∑ c : Fin 50, cw (ix3 f c k) * x (ix3 r c (⟨t.val + k.val, by omega⟩ : Fin 21)) := by
  have e : summed x cw (ix3 r f t) = (0 : EReal) + tapped x cw (0 : Fin 5).val (tap_slices 0) (word_slices 0) (ix3 r f t)
      + tapped x cw (1 : Fin 5).val (tap_slices 1) (word_slices 1) (ix3 r f t) + tapped x cw (2 : Fin 5).val (tap_slices 2) (word_slices 2) (ix3 r f t)
      + tapped x cw (3 : Fin 5).val (tap_slices 3) (word_slices 3) (ix3 r f t) + tapped x cw (4 : Fin 5).val (tap_slices 4) (word_slices 4) (ix3 r f t) := by
    pointwise [summed]
  rw [e]
  simp only [tapped_at, Fin.sum_univ_five, zero_add]

/-- The best position's value, as a folded maximum. -/
theorem best_at (y : FVec Ideal S20480x128x17 .f32) (cb : Bias) (r : Fin 20480) (f : Fin 128) :
    best y cb (ix2 r f) = Finset.univ.fold max (Ideal.ofBits FTy.f32 0xFF800000#32) fun t : Fin 17 => max (y (ix3 r f t) + cb (ix1 f)) 0 := by
  pointwise [best]

/-- The best position's value, as a supremum over the positions. -/
theorem best_sup (y : FVec Ideal S20480x128x17 .f32) (cb : Bias) (r : Fin 20480) (f : Fin 128) (g : Fin 17 → EReal)
    (hy : ∀ t, y (ix3 r f t) = g t) : best y cb (ix2 r f) = Finset.univ.sup fun t : Fin 17 => max (g t + cb (ix1 f)) 0 := by
  rw [best_at, fold_max_bot]
  simp only [hy]

/-- The reference's features are the specification's. -/
theorem best_hid (e : Emb) (t : IVec S20x1024x21 32) (cw : Taps) (cb : Bias) (s : Fin 20) (w : Fin 1024) (row : Fin 21 → Fin 96)
    (ht : ∀ b, t (ix3 s w b) = BitVec.ofNat 32 (row b).val) (f : Fin 128) :
    best (summed (wide e t) cw) cb (ix2 (⟨s.val * 1024 + w.val, by omega⟩ : Fin 20480) f) = hid e cw cb row f := by
  refine best_sup _ cb _ f (fun p => conv e cw row p f) fun p => ?_
  rw [summed_at]
  refine Finset.sum_congr rfl fun q _ => Finset.sum_congr rfl fun c' _ => ?_
  rw [wide_at e t s w _ c' _ (ht _)]

/-- The reference's highway layer is the specification's. -/
theorem mixed_at (h : FVec Ideal S20480x128 .f32) (wp : Mat) (bp : Bias) (wg : Mat) (bg : Bias) (r : Fin 20480) (f : Fin 128) :
    mixed h wp bp wg bg (ix2 r f) = highway wp bp wg bg (fun k => h (ix2 r k)) f := by
  pointwise [mixed, gate, linear, ones]
  rfl

/-- Word `w` of row `s` is word `s * 1024 + w` of the flat list. -/
theorem flat_at (y : FVec Ideal S20480x128 .f32) (s : Fin 20) (w : Fin 1024) (f : Fin 128) :
    (shapeCast S20x1024x128 y shapeCasts_S20480x128_S20x1024x128 : FVec Ideal S20x1024x128 .f32) (ix3 s w f) =
      y (ix2 (⟨s.val * 1024 + w.val, by omega⟩ : Fin 20480) f) := by
  pointwise []

/-- What the reference returns, when its characters are `T`: the specification's highway layer over the specification's features. -/
theorem result_at (T : Fin 20 → Fin 1024 → Fin 21 → Fin 96)
    (hT : ∀ s w b, m (c.tc.loc main_arg0) (ix3 s w b) = BitVec.ofNat 32 (T s w b).val) (s : Fin 20) (w : Fin 1024) (f : Fin 128) :
    Value.res_main_v61 m c (ix3 s w f) = highway (m (c.tc.loc main_arg4)) (m (c.tc.loc main_arg5)) (m (c.tc.loc main_arg6)) (m (c.tc.loc main_arg7))
      (hid (m (c.tc.loc main_arg1)) (m (c.tc.loc main_arg2)) (m (c.tc.loc main_arg3)) (T s w)) f := by
  refine (congrFun (result_eq m c) _).trans ((flat_at _ s w f).trans ((mixed_at _ _ _ _ _ _ f).trans ?_))
  have h : (fun k : Fin 128 => best (summed (wide (m (c.tc.loc main_arg1)) (m (c.tc.loc main_arg0))) (m (c.tc.loc main_arg2)))
      (m (c.tc.loc main_arg3)) (ix2 (⟨s.val * 1024 + w.val, by omega⟩ : Fin 20480) k)) =
      hid (m (c.tc.loc main_arg1)) (m (c.tc.loc main_arg2)) (m (c.tc.loc main_arg3)) (T s w) :=
    funext fun k => best_hid _ _ _ _ s w (T s w) (hT s w) k
  rw [h]

end Cert.ReferenceIdeal.Lookup
end
-- ==== Proof.Ends.lean ====
/- The two programs return the same array when every character is in range. -/
module

public import proofs.«01_k».proof.Defs
public import proofs.«01_k».proof.Proof.Value
public import proofs.«01_k».proof.Proof.Reference
public import Idealize.ShloMosaic.Lib.Claim

@[expose] public section

set_option maxRecDepth 16384

noncomputable section

namespace Cert.Proof

open Idealize.ShloMosaic Idealize.SL.Sem Cert.Conv

/-- The shape relation the precondition's broadcasts take. -/
instance preFacts : Cert.Pre_tokens.Facts where
  bcast_S_S20x1024x21 := by decide

/-- The test at one character. -/
theorem tokens_at (a0 : IVec ⟨3, ![20, 1024, 21]⟩ 32) (a1 : Emb) (a2 : Taps) (a3 : Bias) (a4 : Mat) (a5 : Bias) (a6 : Mat) (a7 : Bias)
    (s : Fin 20) (w : Fin 1024) (b : Fin 21) : Cert.Pre_tokens.fn (F := Ideal) a0 a1 a2 a3 a4 a5 a6 a7 (ix3 s w b) =
      IntOp.andi (IntOp.cmpi .sge (a0 (ix3 s w b)) 0#32) (IntOp.cmpi .slt (a0 (ix3 s w b)) 96#32) := by
  pointwise [Cert.Pre_tokens.fn]

/-- A word the test passes is one of the 96 characters. -/
theorem word_in_range (x : BitVec 32) (h : IntOp.andi (IntOp.cmpi .sge x 0#32) (IntOp.cmpi .slt x 96#32) = 1#1) :
    ∃ n : Fin 96, x = BitVec.ofNat 32 n.val := by
  have hs : (0#32).sle x = true ∧ x.slt 96#32 = true := by
    cases h0 : (0#32).sle x <;> cases h1 : x.slt 96#32 <;> simp [IntOp.andi, IntOp.cmpi, h0, h1] at h ⊢
  have h0 : (0#32).toInt ≤ x.toInt := by simpa [BitVec.sle] using hs.1
  have h1 : x.toInt < (96#32).toInt := by simpa [BitVec.slt] using hs.2
  have z : (0#32).toInt = 0 := by decide
  have n : (96#32).toInt = 96 := by decide
  have hx : x.toNat < 96 := by
    rw [z] at h0
    rw [n] at h1
    have e := BitVec.toInt_eq_toNat_cond x
    have hl := x.isLt
    split at e <;> omega
  exact ⟨⟨x.toNat, hx⟩, by simp⟩

/-- Under the precondition the characters are a table of numbers below 96. -/
theorem tokens_table (m : (ℓ : Loc Cert.KernelIdeal.nD Cert.KernelIdeal.τ Cert.KernelIdeal.sig) → Buf (Elt Ideal) ℓ)
    (h : Cert.Pre_KernelIdeal_tokens m) (c : Dev Cert.KernelIdeal.nD) : ∃ T : Fin 20 → Fin 1024 → Fin 21 → Fin 96,
      ∀ s w b, m (c.tc.loc Cert.KernelIdeal.main_arg0) (ix3 s w b) = BitVec.ofNat 32 (T s w b).val := by
  have p : ∀ s w b, ∃ n : Fin 96, m (c.tc.loc Cert.KernelIdeal.main_arg0) (ix3 s w b) = BitVec.ofNat 32 n.val := fun s w b =>
    word_in_range _ ((tokens_at _ _ _ _ _ _ _ _ s w b).symm.trans (congrFun (h c) (ix3 s w b)))
  choose T hT using p
  exact ⟨T, hT⟩

/-- The two returned arrays are one, on arguments that agree and characters in range. -/
theorem ends_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (h : Cert.Pre_KernelIdeal_tokens m) (c : Dev Cert.KernelIdeal.nD)
    (h0 : m' (c.tc.loc Cert.ReferenceIdeal.main_arg0) = m (c.tc.loc Cert.KernelIdeal.main_arg0))
    (h1 : m' (c.tc.loc Cert.ReferenceIdeal.main_arg1) = m (c.tc.loc Cert.KernelIdeal.main_arg1))
    (h2 : m' (c.tc.loc Cert.ReferenceIdeal.main_arg2) = m (c.tc.loc Cert.KernelIdeal.main_arg2))
    (h3 : m' (c.tc.loc Cert.ReferenceIdeal.main_arg3) = m (c.tc.loc Cert.KernelIdeal.main_arg3))
    (h4 : m' (c.tc.loc Cert.ReferenceIdeal.main_arg4) = m (c.tc.loc Cert.KernelIdeal.main_arg4))
    (h5 : m' (c.tc.loc Cert.ReferenceIdeal.main_arg5) = m (c.tc.loc Cert.KernelIdeal.main_arg5))
    (h6 : m' (c.tc.loc Cert.ReferenceIdeal.main_arg6) = m (c.tc.loc Cert.KernelIdeal.main_arg6))
    (h7 : m' (c.tc.loc Cert.ReferenceIdeal.main_arg7) = m (c.tc.loc Cert.KernelIdeal.main_arg7)) :
    (Cert.ReferenceIdeal.Value.res_main_v61 m' c : FVec Ideal ⟨3, ![20, 1024, 128]⟩ .f32) =
      Pipeline.afterTail₀ Cert.KernelIdeal.cfgs (Cert.KernelIdeal.Gen.dats m) 0 (Cert.KernelIdeal.Gen.V0 m) [Cert.KernelIdeal.Gen.hostOps1] c
        Cert.KernelIdeal.main_v24 := by
  obtain ⟨T, hT⟩ := tokens_table m h c
  funext i
  idx_vars i
  refine (Cert.ReferenceIdeal.Lookup.result_at m' c T (fun s w b => (congrFun h0 _).trans (hT s w b)) _ _ _).trans ?_
  rw [h1, h2, h3, h4, h5, h6, h7]
  exact (Cert.KernelIdeal.Value.result_at m c T hT _ _ _).symm

set_option maxHeartbeats 2000000 in
/-- The kernel and the reference, from memories that agree on the arguments and hold characters in range, end with equal results. -/
theorem algebraic : Cert.algebraic_KernelIdeal_ReferenceIdeal_pre_tokens (hKernelIdeal := Cert.KernelIdeal.Gen.facts)
    (hReferenceIdeal := Cert.ReferenceIdeal.Gen.facts) := by
  pair_intro
  · run_from Cert.KernelIdeal.Gen.run_main m g
    · exact Cert.KernelIdeal.Gen.W_main_arg0 m (Cert.KernelIdeal.Gen.dats m) c
    · exact Cert.KernelIdeal.Gen.W_main_arg1 m (Cert.KernelIdeal.Gen.dats m) c
    · exact Cert.KernelIdeal.Gen.W_main_arg2 m (Cert.KernelIdeal.Gen.dats m) c
    · exact Cert.KernelIdeal.Gen.W_main_arg3 m (Cert.KernelIdeal.Gen.dats m) c
    · exact Cert.KernelIdeal.Gen.W_main_arg4 m (Cert.KernelIdeal.Gen.dats m) c
    · exact Cert.KernelIdeal.Gen.W_main_arg5 m (Cert.KernelIdeal.Gen.dats m) c
    · exact Cert.KernelIdeal.Gen.W_main_arg6 m (Cert.KernelIdeal.Gen.dats m) c
    · exact Cert.KernelIdeal.Gen.W_main_arg7 m (Cert.KernelIdeal.Gen.dats m) c
  · refine (θ_run Cert.ReferenceIdeal.defs _ _).mono (fun r h c => ?_) (Cert.ReferenceIdeal.Value.run m' g')
    obtain ⟨h0, h1, h2, h3, h4, h5, h6, h7⟩ := hagree c
    exact ⟨(h c).1.trans (ends_eq m m' hpre c h0 h1 h2 h3 h4 h5 h6 h7), (h c).2⟩

end Cert.Proof
end
-- ==== Proof.lean ====
/- The certificate: the three frames and the algebraic equality of the kernel with the reference. -/
module

public import proofs.«01_k».proof.Defs
public import proofs.«01_k».proof.Proof.Gen.Kernel.Frame
public import proofs.«01_k».proof.Proof.Gen.KernelIdeal.Frame
public import proofs.«01_k».proof.Proof.Frames
public import proofs.«01_k».proof.Proof.Ends

@[expose] public section

noncomputable section

namespace Cert.Proof

open Idealize.ShloMosaic Idealize.SL.Sem

/-- The kernel, the idealized kernel and the reference each run, keep their arguments and end with every counter at zero;
    the idealized kernel and the reference return the same array when every character is in range. -/
theorem claim : Cert.Claim :=
  ⟨Cert.Kernel.Gen.facts, Cert.KernelIdeal.Gen.facts, Cert.ReferenceIdeal.Gen.facts, preFacts,
    fun m ρ _ => Cert.Kernel.Gen.frame m ρ, fun m ρ _ => Cert.KernelIdeal.Gen.frame m ρ, fun m ρ _ => Cert.KernelIdeal.Gen.frame m ρ,
    frame_reference, fun m ρ _ => frame_reference m ρ trivial, trivial, algebraic⟩

end Cert.Proof

end
